-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain_KernelIdeal [hPre_in_domain_KernelIdeal : Cert.Pre_in_domain_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain_ReferenceIdeal [hPre_in_domain_ReferenceIdeal : Cert.Pre_in_domain_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_domain_KernelIdeal [hKernelIdeal : Cert.KernelIdeal.Facts] [hPre_in_domain_KernelIdeal : Cert.Pre_in_domain_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_domain_ReferenceIdeal [hReferenceIdeal : Cert.ReferenceIdeal.Facts] [hPre_in_domain_ReferenceIdeal : Cert.Pre_in_domain_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_in_domain_KernelIdeal [hKernelIdeal : Cert.KernelIdeal.Facts] [hReferenceIdeal : Cert.ReferenceIdeal.Facts] [hPre_in_domain_KernelIdeal : Cert.Pre_in_domain_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![128, 16, 16, 64]⟩ ⟨4, ![512, 16, 16, 64]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![128, 16, 16, 64]⟩ ⟨4, ![512, 16, 16, 64]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_domain_KernelIdeal : Cert.Pre_in_domain_KernelIdeal.Facts) (hPre_in_domain_ReferenceIdeal : Cert.Pre_in_domain_ReferenceIdeal.Facts),
    quiescent_Kernel (hKernel := hKernel)
    ∧ quiescent_KernelIdeal (hKernelIdeal := hKernelIdeal)
    ∧ quiescent_KernelIdeal_pre_in_domain_KernelIdeal (hKernelIdeal := hKernelIdeal) (hPre_in_domain_KernelIdeal := hPre_in_domain_KernelIdeal)
    ∧ quiescent_ReferenceIdeal (hReferenceIdeal := hReferenceIdeal)
    ∧ quiescent_ReferenceIdeal_pre_in_domain_ReferenceIdeal (hReferenceIdeal := hReferenceIdeal) (hPre_in_domain_ReferenceIdeal := hPre_in_domain_ReferenceIdeal)
    ∧ preserves_Kernel_KernelIdeal
    ∧ algebraic_KernelIdeal_ReferenceIdeal_pre_in_domain_KernelIdeal (hKernelIdeal := hKernelIdeal) (hReferenceIdeal := hReferenceIdeal) (hPre_in_domain_KernelIdeal := hPre_in_domain_KernelIdeal)
-- ==== Pre_in_domain_KernelIdeal.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S16x1 : Shape := ⟨2, ![16, 1]⟩
abbrev S_ : Shape := ⟨0, ![]⟩

class Facts : Prop where
  shapeCasts_S16_S16x1 : S16.ShapeCasts S16x1
  bcast_S16x1_S16x128_0_1 : S16x1.BroadcastsInDim S16x128 (![0, 1] : Fin 2 → Fin S16x128.rank)
  bcast_S_S16x128 : S_.BroadcastsInDim S16x128 (![] : Fin 0 → Fin S16x128.rank)
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S128x16x16x64 : S_.BroadcastsInDim S128x16x16x64 (![] : Fin 0 → Fin S128x16x16x64.rank)
  reducesTo_S128x16x16x64_S_d0_1_2_3 : S128x16x16x64.ReducesTo [0, 1, 2, 3] S_
  bcast_S_S16 : S_.BroadcastsInDim S16 (![] : Fin 0 → Fin S16.rank)
  reducesTo_S16_S_d0 : S16.ReducesTo [0] S_
  reducesTo_S16x128_S_d0_1 : S16x128.ReducesTo [0, 1] S_

variable [Facts]

def fn_part1 {F : FTy → Type} [FloatOps F] (main_arg4 : IVec S16 32) (main_v3 : IVec S16x128 1) (main_v8 : IVec S16x128 1) (main_v17 : IVec S_ 1) : IVec S_ 1 :=
  let main_c_4 : IVec S_ 32 := constantI S_ 32 1#32
  let main_v18 : IVec S16 32 := broadcastInDim S16 ![] bcast_S_S16 main_c_4
  let main_v19 : IVec S16 1 := cmpi .sge main_arg4 main_v18
  let main_c_5 : IVec S_ 1 := constantI S_ 1 1#1
  let main_v20 : IVec S_ 1 := (fun x v => Host.reduce IntOp.andi x v reducesTo_S16_S_d0 h_S_) main_v19 main_c_5
  let main_v21 : IVec S16x128 1 := noti main_v3
  let main_v22 : IVec S16x128 1 := ori main_v8 main_v21
  let main_c_6 : IVec S_ 1 := constantI S_ 1 1#1
  let main_v23 : IVec S_ 1 := (fun x v => Host.reduce IntOp.andi x v reducesTo_S16x128_S_d0_1 h_S_) main_v22 main_c_6
  let main_v24 : IVec S_ 1 := andi main_v20 main_v23
  let main_v25 : IVec S_ 1 := andi main_v24 main_v17
  main_v25

def fn {F : FTy → Type} [FloatOps F] (main_arg0 : FVec F S16x1x16x64 .f32) (main_arg1 : FVec F S128x16x16x64 .f32) (main_arg2 : FVec F S128x16x16x64 .f32) (main_arg3 : IVec S16x128 32) (main_arg4 : IVec S16 32) : IVec S_ 1 :=
  let main_v0 : IVec S16x128 32 := iotaInDim S16x128 32 1
  let main_v1 : IVec S16x1 32 := shapeCast S16x1 main_arg4 shapeCasts_S16_S16x1
  let main_v2 : IVec S16x128 32 := broadcastInDim S16x128 ![0, 1] bcast_S16x1_S16x128_0_1 main_v1
  let main_v3 : IVec S16x128 1 := cmpi .slt main_v0 main_v2
  let main_c : IVec S_ 32 := constantI S_ 32 0#32
  let main_v4 : IVec S16x128 32 := broadcastInDim S16x128 ![] bcast_S_S16x128 main_c
  let main_v5 : IVec S16x128 1 := cmpi .sge main_arg3 main_v4
  let main_c_0 : IVec S_ 32 := constantI S_ 32 512#32
  let main_v6 : IVec S16x128 32 := broadcastInDim S16x128 ![] bcast_S_S16x128 main_c_0
  let main_v7 : IVec S16x128 1 := cmpi .slt main_arg3 main_v6
  let main_v8 : IVec S16x128 1 := andi main_v5 main_v7
  let main_v9 : FVec F S16x1x16x64 .f32 := Host.absf main_arg0
  let main_cst : FVec F S_ .f32 := constant S_ .f32 0x7F800000#32
  let main_v10 : FVec F S16x1x16x64 .f32 := broadcastInDim S16x1x16x64 ![] bcast_S_S16x1x16x64 main_cst
  let main_v11 : IVec S16x1x16x64 1 := cmpf .olt main_v9 main_v10
  let main_c_1 : IVec S_ 1 := constantI S_ 1 1#1
  let main_v12 : IVec S_ 1 := (fun x v => Host.reduce IntOp.andi x v reducesTo_S16x1x16x64_S_d0_1_2_3 h_S_) main_v11 main_c_1
  let main_v13 : FVec F S128x16x16x64 .f32 := Host.absf main_arg1
  let main_cst_2 : FVec F S_ .f32 := constant S_ .f32 0x7F800000#32
  let main_v14 : FVec F S128x16x16x64 .f32 := broadcastInDim S128x16x16x64 ![] bcast_S_S128x16x16x64 main_cst_2
  let main_v15 : IVec S128x16x16x64 1 := cmpf .olt main_v13 main_v14
  let main_c_3 : IVec S_ 1 := constantI S_ 1 1#1
  let main_v16 : IVec S_ 1 := (fun x v => Host.reduce IntOp.andi x v reducesTo_S128x16x16x64_S_d0_1_2_3 h_S_) main_v15 main_c_3
  let main_v17 : IVec S_ 1 := andi main_v12 main_v16
  fn_part1 (F := F) main_arg4 main_v3 main_v8 main_v17
-- ==== Pre_in_domain_ReferenceIdeal.lean ====
abbrev S16x1x16x64 : Shape := ⟨4, ![16, 1, 16, 64]⟩
abbrev S512x16x16x64 : Shape := ⟨4, ![512, 16, 16, 64]⟩
abbrev S16x128 : Shape := ⟨2, ![16, 128]⟩
abbrev S16 : Shape := ⟨1, ![16]⟩
abbrev S16x1 : Shape := ⟨2, ![16, 1]⟩
abbrev S_ : Shape := ⟨0, ![]⟩

class Facts : Prop where
  shapeCasts_S16_S16x1 : S16.ShapeCasts S16x1
  bcast_S16x1_S16x128_0_1 : S16x1.BroadcastsInDim S16x128 (![0, 1] : Fin 2 → Fin S16x128.rank)
  bcast_S_S16x128 : S_.BroadcastsInDim S16x128 (![] : Fin 0 → Fin S16x128.rank)
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S512x16x16x64 : S_.BroadcastsInDim S512x16x16x64 (![] : Fin 0 → Fin S512x16x16x64.rank)
  reducesTo_S512x16x16x64_S_d0_1_2_3 : S512x16x16x64.ReducesTo [0, 1, 2, 3] S_
  bcast_S_S16 : S_.BroadcastsInDim S16 (![] : Fin 0 → Fin S16.rank)
  reducesTo_S16_S_d0 : S16.ReducesTo [0] S_
  reducesTo_S16x128_S_d0_1 : S16x128.ReducesTo [0, 1] S_

variable [Facts]

def fn_part1 {F : FTy → Type} [FloatOps F] (main_arg4 : IVec S16 32) (main_v3 : IVec S16x128 1) (main_v8 : IVec S16x128 1) (main_v17 : IVec S_ 1) : IVec S_ 1 :=
  let main_c_4 : IVec S_ 32 := constantI S_ 32 1#32
  let main_v18 : IVec S16 32 := broadcastInDim S16 ![] bcast_S_S16 main_c_4
  let main_v19 : IVec S16 1 := cmpi .sge main_arg4 main_v18
  let main_c_5 : IVec S_ 1 := constantI S_ 1 1#1
  let main_v20 : IVec S_ 1 := (fun x v => Host.reduce IntOp.andi x v reducesTo_S16_S_d0 h_S_) main_v19 main_c_5
  let main_v21 : IVec S16x128 1 := noti main_v3
  let main_v22 : IVec S16x128 1 := ori main_v8 main_v21
  let main_c_6 : IVec S_ 1 := constantI S_ 1 1#1
  let main_v23 : IVec S_ 1 := (fun x v => Host.reduce IntOp.andi x v reducesTo_S16x128_S_d0_1 h_S_) main_v22 main_c_6
  let main_v24 : IVec S_ 1 := andi main_v20 main_v23
  let main_v25 : IVec S_ 1 := andi main_v24 main_v17
  main_v25

def fn {F : FTy → Type} [FloatOps F] (main_arg0 : FVec F S16x1x16x64 .f32) (main_arg1 : FVec F S512x16x16x64 .f32) (main_arg2 : FVec F S512x16x16x64 .f32) (main_arg3 : IVec S16x128 32) (main_arg4 : IVec S16 32) : IVec S_ 1 :=
  let main_v0 : IVec S16x128 32 := iotaInDim S16x128 32 1
  let main_v1 : IVec S16x1 32 := shapeCast S16x1 main_arg4 shapeCasts_S16_S16x1
  let main_v2 : IVec S16x128 32 := broadcastInDim S16x128 ![0, 1] bcast_S16x1_S16x128_0_1 main_v1
  let main_v3 : IVec S16x128 1 := cmpi .slt main_v0 main_v2
  let main_c : IVec S_ 32 := constantI S_ 32 0#32
  let main_v4 : IVec S16x128 32 := broadcastInDim S16x128 ![] bcast_S_S16x128 main_c
  let main_v5 : IVec S16x128 1 := cmpi .sge main_arg3 main_v4
  let main_c_0 : IVec S_ 32 := constantI S_ 32 512#32
  let main_v6 : IVec S16x128 32 := broadcastInDim S16x128 ![] bcast_S_S16x128 main_c_0
  let main_v7 : IVec S16x128 1 := cmpi .slt main_arg3 main_v6
  let main_v8 : IVec S16x128 1 := andi main_v5 main_v7
  let main_v9 : FVec F S16x1x16x64 .f32 := Host.absf main_arg0
  let main_cst : FVec F S_ .f32 := constant S_ .f32 0x7F800000#32
  let main_v10 : FVec F S16x1x16x64 .f32 := broadcastInDim S16x1x16x64 ![] bcast_S_S16x1x16x64 main_cst
  let main_v11 : IVec S16x1x16x64 1 := cmpf .olt main_v9 main_v10
  let main_c_1 : IVec S_ 1 := constantI S_ 1 1#1
  let main_v12 : IVec S_ 1 := (fun x v => Host.reduce IntOp.andi x v reducesTo_S16x1x16x64_S_d0_1_2_3 h_S_) main_v11 main_c_1
  let main_v13 : FVec F S512x16x16x64 .f32 := Host.absf main_arg1
  let main_cst_2 : FVec F S_ .f32 := constant S_ .f32 0x7F800000#32
  let main_v14 : FVec F S512x16x16x64 .f32 := broadcastInDim S512x16x16x64 ![] bcast_S_S512x16x16x64 main_cst_2
  let main_v15 : IVec S512x16x16x64 1 := cmpf .olt main_v13 main_v14
  let main_c_3 : IVec S_ 1 := constantI S_ 1 1#1
  let main_v16 : IVec S_ 1 := (fun x v => Host.reduce IntOp.andi x v reducesTo_S512x16x16x64_S_d0_1_2_3 h_S_) main_v15 main_c_3
  let main_v17 : IVec S_ 1 := andi main_v12 main_v16
  fn_part1 (F := F) main_arg4 main_v3 main_v8 main_v17
-- ==== Kernel.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S16x16x64x128 : Shape := ⟨4, ![16, 16, 64, 128]⟩
abbrev S16x1 : Shape := ⟨2, ![16, 1]⟩
abbrev S4x16x16x128 : Shape := ⟨4, ![4, 16, 16, 128]⟩
abbrev S2 : Shape := ⟨1, ![2]⟩
abbrev S4 : Shape := ⟨1, ![4]⟩
abbrev S1 : Shape := ⟨1, ![1]⟩
abbrev S_ : Shape := ⟨0, ![]⟩
abbrev S16x128x1 : Shape := ⟨3, ![16, 128, 1]⟩
abbrev S16x128x128 : Shape := ⟨3, ![16, 128, 128]⟩
abbrev S16x1x1 : Shape := ⟨3, ![16, 1, 1]⟩
abbrev S128x2048 : Shape := ⟨2, ![128, 2048]⟩
abbrev S16x2048 : Shape := ⟨2, ![16, 2048]⟩
abbrev S16x1024 : Shape := ⟨2, ![16, 1024]⟩
abbrev S16x16x1024 : Shape := ⟨3, ![16, 16, 1024]⟩
abbrev S1x16x1024 : Shape := ⟨3, ![1, 16, 1024]⟩
abbrev S256x1024 : Shape := ⟨2, ![256, 1024]⟩
abbrev S16x1024x128 : Shape := ⟨3, ![16, 1024, 128]⟩
abbrev S1x1024x128 : Shape := ⟨3, ![1, 1024, 128]⟩
abbrev S1024x128 : Shape := ⟨2, ![1024, 128]⟩
abbrev S256x128 : Shape := ⟨2, ![256, 128]⟩
abbrev S256x2048 : Shape := ⟨2, ![256, 2048]⟩
abbrev S1x16x2048 : Shape := ⟨3, ![1, 16, 2048]⟩
abbrev S16x16x2048 : Shape := ⟨3, ![16, 16, 2048]⟩
abbrev S256 : Shape := ⟨1, ![256]⟩
abbrev S256x1 : Shape := ⟨2, ![256, 1]⟩
abbrev S1024x64 : Shape := ⟨2, ![1024, 64]⟩
abbrev S256x64 : Shape := ⟨2, ![256, 64]⟩
abbrev S16x64 : Shape := ⟨2, ![16, 64]⟩
abbrev S1x16x1x64 : Shape := ⟨4, ![1, 16, 1, 64]⟩
abbrev S1x16x1x1 : Shape := ⟨4, ![1, 16, 1, 1]⟩
abbrev S1x16x16x128 : Shape := ⟨4, ![1, 16, 16, 128]⟩
abbrev S16x16x128 : Shape := ⟨3, ![16, 16, 128]⟩
abbrev S1x16x16x1 : Shape := ⟨4, ![1, 16, 16, 1]⟩
abbrev S16x16x1 : Shape := ⟨3, ![16, 16, 1]⟩
abbrev S16x16x64 : Shape := ⟨3, ![16, 16, 64]⟩
abbrev S1x16x16x64 : Shape := ⟨4, ![1, 16, 16, 64]⟩

abbrev nBuf : Space → Nat
  | .hbm => 9
  | .vmem => 7
  | .smem => 0
  | _ => 0

abbrev bufTy : (tb : Table) → Fin (tcTables nBuf tb) → BufTy
  | .hbm, ⟨0, _⟩ => ⟨S16x1x16x64, .f32⟩
  | .hbm, ⟨1, _⟩ => ⟨S128x16x16x64, .f32⟩
  | .hbm, ⟨2, _⟩ => ⟨S128x16x16x64, .f32⟩
  | .hbm, ⟨3, _⟩ => ⟨S16x128, .i32⟩
  | .hbm, ⟨4, _⟩ => ⟨S16, .i32⟩
  | .hbm, ⟨5, _⟩ => ⟨S16x16x64x128, .f32⟩
  | .hbm, ⟨6, _⟩ => ⟨S16x16x64x128, .f32⟩
  | .hbm, ⟨7, _⟩ => ⟨S16x1, .i32⟩
  | .hbm, ⟨8, _⟩ => ⟨S16x1x16x64, .f32⟩
  | .local _ .vmem, ⟨0, _⟩ => ⟨S16x1x16x64, .f32⟩
  | .local _ .vmem, ⟨1, _⟩ => ⟨S16x128, .i32⟩
  | .local _ .vmem, ⟨2, _⟩ => ⟨S16x1, .i32⟩
  | .local _ .vmem, ⟨3, _⟩ => ⟨S16x1x16x64, .f32⟩
  | .local _ .vmem, ⟨4, _⟩ => ⟨S16x16x64x128, .f32⟩
  | .local _ .vmem, ⟨5, _⟩ => ⟨S16x16x64x128, .f32⟩
  | .local _ .vmem, ⟨6, _⟩ => ⟨S4x16x16x128, .f32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d4 : Dev nD) : Nat :=
  let c0_i32_5 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_1 : BitVec 32 := 1#32
  let v8 : BitVec 32 := Scalar.addi v6 c1_i32_1
  let c4_i32_2 : BitVec 32 := 4#32
  let v9 : BitVec 32 := Scalar.remsi v8 c4_i32_2
  let c1_i32_4 : BitVec 32 := 1#32
  let v10 : BitVec 32 := Scalar.muli v9 c1_i32_4
  let v11 : BitVec 32 := Scalar.addi c0_i32_5 v10
  v11.toNat
def k0_dev2 (d4 : Dev nD) : Nat :=
  let c0_i32_9 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c2_i32 : BitVec 32 := 2#32
  let v12 : BitVec 32 := Scalar.addi v6 c2_i32
  let c4_i32_6 : BitVec 32 := 4#32
  let v13 : BitVec 32 := Scalar.remsi v12 c4_i32_6
  let c1_i32_8 : BitVec 32 := 1#32
  let v14 : BitVec 32 := Scalar.muli v13 c1_i32_8
  let v15 : BitVec 32 := Scalar.addi c0_i32_9 v14
  v15.toNat
def k0_dev3 (d4 : Dev nD) : Nat :=
  let c0_i32_13 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c3_i32 : BitVec 32 := 3#32
  let v16 : BitVec 32 := Scalar.addi v6 c3_i32
  let c4_i32_10 : BitVec 32 := 4#32
  let v17 : BitVec 32 := Scalar.remsi v16 c4_i32_10
  let c1_i32_12 : BitVec 32 := 1#32
  let v18 : BitVec 32 := Scalar.muli v17 c1_i32_12
  let v19 : BitVec 32 := Scalar.addi c0_i32_13 v18
  v19.toNat
def k0_dev4 (d4 : Dev nD) : Nat :=
  let c0_i32_273 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_266 : BitVec 32 := 1#32
  let v476 : BitVec 32 := Scalar.addi v6 c1_i32_266
  let c4_i32_267 : BitVec 32 := 4#32
  let v477 : BitVec 32 := Scalar.remsi v476 c4_i32_267
  let c1_i32_272 : BitVec 32 := 1#32
  let v478 : BitVec 32 := Scalar.muli v477 c1_i32_272
  let v479 : BitVec 32 := Scalar.addi c0_i32_273 v478
  v479.toNat
def k0_dev5 (d4 : Dev nD) : Nat :=
  let c0_i32_287 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c2_i32_280 : BitVec 32 := 2#32
  let v488 : BitVec 32 := Scalar.addi v6 c2_i32_280
  let c4_i32_281 : BitVec 32 := 4#32
  let v489 : BitVec 32 := Scalar.remsi v488 c4_i32_281
  let c1_i32_286 : BitVec 32 := 1#32
  let v490 : BitVec 32 := Scalar.muli v489 c1_i32_286
  let v491 : BitVec 32 := Scalar.addi c0_i32_287 v490
  v491.toNat
def k0_dev6 (d4 : Dev nD) : Nat :=
  let c0_i32_301 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c3_i32_294 : BitVec 32 := 3#32
  let v500 : BitVec 32 := Scalar.addi v6 c3_i32_294
  let c4_i32_295 : BitVec 32 := 4#32
  let v501 : BitVec 32 := Scalar.remsi v500 c4_i32_295
  let c1_i32_300 : BitVec 32 := 1#32
  let v502 : BitVec 32 := Scalar.muli v501 c1_i32_300
  let v503 : BitVec 32 := Scalar.addi c0_i32_301 v502
  v503.toNat
abbrev stage0_0 : Fin 1 → Memref sig .tc .vmem S16x1x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S16x1x16x64 : Shape := ⟨4, ![16, 1, 16, 64]⟩
abbrev S512x16x16x64 : Shape := ⟨4, ![512, 16, 16, 64]⟩
abbrev S16x128 : Shape := ⟨2, ![16, 128]⟩
abbrev S16 : Shape := ⟨1, ![16]⟩
abbrev S_ : Shape := ⟨0, ![]⟩
abbrev S16x128x1 : Shape := ⟨3, ![16, 128, 1]⟩
abbrev S16x128x16x16x64 : Shape := ⟨5, ![16, 128, 16, 16, 64]⟩
abbrev S16x2048x16x64 : Shape := ⟨4, ![16, 2048, 16, 64]⟩
abbrev S16x16x1x2048 : Shape := ⟨4, ![16, 16, 1, 2048]⟩
abbrev S16x1x1x2048 : Shape := ⟨4, ![16, 1, 1, 2048]⟩
abbrev S16x1x1x1 : Shape := ⟨4, ![16, 1, 1, 1]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 69
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S512x16x16x64, .f32⟩
  | .hbm, ⟨2, _⟩ => ⟨S512x16x16x64, .f32⟩
  | .hbm, ⟨3, _⟩ => ⟨S16x128, .i32⟩
  | .hbm, ⟨4, _⟩ => ⟨S16, .i32⟩
  | .hbm, ⟨5, _⟩ => ⟨S_, .i32⟩
  | .hbm, ⟨6, _⟩ => ⟨S16x128, .i32⟩
  | .hbm, ⟨7, _⟩ => ⟨S16x128, .i1⟩
  | .hbm, ⟨8, _⟩ => ⟨S_, .i32⟩
  | .hbm, ⟨9, _⟩ => ⟨S16x128, .i32⟩
  | .hbm, ⟨10, _⟩ => ⟨S16x128, .i32⟩
  | .hbm, ⟨11, _⟩ => ⟨S16x128, .i32⟩
  | .hbm, ⟨12, _⟩ => ⟨S16x128x1, .i32⟩
  | .hbm, ⟨13, _⟩ => ⟨S16x128x16x16x64, .f32⟩
  | .hbm, ⟨14, _⟩ => ⟨S16x2048x16x64, .f32⟩
  | .hbm, ⟨15, _⟩ => ⟨S_, .i32⟩
  | .hbm, ⟨16, _⟩ => ⟨S16x128, .i32⟩
  | .hbm, ⟨17, _⟩ => ⟨S16x128, .i1⟩
  | .hbm, ⟨18, _⟩ => ⟨S_, .i32⟩
  | .hbm, ⟨19, _⟩ => ⟨S16x128, .i32⟩
  | .hbm, ⟨20, _⟩ => ⟨S16x128, .i32⟩
  | .hbm, ⟨21, _⟩ => ⟨S16x128, .i32⟩
  | .hbm, ⟨22, _⟩ => ⟨S16x128x1, .i32⟩
  | .hbm, ⟨23, _⟩ => ⟨S16x128x16x16x64, .f32⟩
  | .hbm, ⟨24, _⟩ => ⟨S16x2048x16x64, .f32⟩
  | .hbm, ⟨25, _⟩ => ⟨S16x16x1x2048, .f32⟩
  | .hbm, ⟨26, _⟩ => ⟨S_, .f32⟩
  | .hbm, ⟨27, _⟩ => ⟨S16x16x1x2048, .f32⟩
  | .hbm, ⟨28, _⟩ => ⟨S16x16x1x2048, .f32⟩
  | .hbm, ⟨29, _⟩ => ⟨S16x1x1x2048, .i32⟩
  | .hbm, ⟨30, _⟩ => ⟨S_, .i32⟩
  | .hbm, ⟨31, _⟩ => ⟨S_, .i32⟩
  | .hbm, ⟨32, _⟩ => ⟨S16x1x1x2048, .i32⟩
  | .hbm, ⟨33, _⟩ => ⟨S16x1x1x2048, .i32⟩
  | .hbm, ⟨34, _⟩ => ⟨S16x1x1x2048, .i32⟩
  | .hbm, ⟨35, _⟩ => ⟨S_, .i32⟩
  | .hbm, ⟨36, _⟩ => ⟨S16x1x1x2048, .i32⟩
  | .hbm, ⟨37, _⟩ => ⟨S16x1x1x2048, .i1⟩
  | .hbm, ⟨38, _⟩ => ⟨S16x1x1x2048, .i32⟩
  | .hbm, ⟨39, _⟩ => ⟨S16x1x1x2048, .i32⟩
  | .hbm, ⟨40, _⟩ => ⟨S_, .i32⟩
  | .hbm, ⟨41, _⟩ => ⟨S16x1x1x2048, .i32⟩
  | .hbm, ⟨42, _⟩ => ⟨S16x1x1x2048, .i1⟩
  | .hbm, ⟨43, _⟩ => ⟨S16x1x1x2048, .i1⟩
  | .hbm, ⟨44, _⟩ => ⟨S_, .i32⟩
  | .hbm, ⟨45, _⟩ => ⟨S16x1x1x2048, .i32⟩
  | .hbm, ⟨46, _⟩ => ⟨S16x1x1x2048, .i32⟩
  | .hbm, ⟨47, _⟩ => ⟨S16x1x1x2048, .i32⟩
  | .hbm, ⟨48, _⟩ => ⟨S16x1x1x1, .i32⟩
  | .hbm, ⟨49, _⟩ => ⟨S16x1x1x2048, .i32⟩
  | .hbm, ⟨50, _⟩ => ⟨S16x1x1x2048, .i1⟩
  | .hbm, ⟨51, _⟩ => ⟨S_, .f32⟩
  | .hbm, ⟨52, _⟩ => ⟨S_, .f32⟩
  | .hbm, ⟨53, _⟩ => ⟨S16x16x1x2048, .i1⟩
  | .hbm, ⟨54, _⟩ => ⟨S16x16x1x2048, .f32⟩
  | .hbm, ⟨55, _⟩ => ⟨S16x16x1x2048, .f32⟩
  | .hbm, ⟨56, _⟩ => ⟨S_, .f32⟩
  | .hbm, ⟨57, _⟩ => ⟨S16x16x1, .f32⟩
  | .hbm, ⟨58, _⟩ => ⟨S16x16x1x1, .f32⟩
  | .hbm, ⟨59, _⟩ => ⟨S16x16x1x2048, .f32⟩
  | .hbm, ⟨60, _⟩ => ⟨S16x16x1x2048, .f32⟩
  | .hbm, ⟨61, _⟩ => ⟨S16x16x1x2048, .f32⟩
  | .hbm, ⟨62, _⟩ => ⟨S_, .f32⟩
  | .hbm, ⟨63, _⟩ => ⟨S16x16x1, .f32⟩
  | .hbm, ⟨64, _⟩ => ⟨S16x16x1x1, .f32⟩
  | .hbm, ⟨65, _⟩ => ⟨S16x16x1x2048, .f32⟩
  | .hbm, ⟨66, _⟩ => ⟨S16x16x1x2048, .f32⟩
  | .hbm, ⟨67, _⟩ => ⟨S16x16x64x1, .f32⟩
  | .hbm, ⟨68, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v24 : Ref sig .tc := ⟨.hbm, 55, rfl⟩
abbrev main_cst_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩

abbrev nD : Nat := 1
abbrev τ : Topo := Topo.v7x

variable {F : FTy → Type} [FloatOps F]
-- ==== Proof.IdealProtocol.lean ====
/-
  The protocol of the kernel's one region: which semaphore cells a device uses, who pays onto each, how much, and what
  every payment hands over.

  Device `d` (of four, counted modulo four) has
  * its BARRIER cell: for `j = 1, 2, 3` device `d - j` signals one unit once it is inside the region. With it `d` receives
    slot `j` of device `d - j`'s exchange buffer, which `d`'s copy number `j` overwrites, and the fact that the receive cell
    the copy pays is open;
  * its LOAD cells 0 and 1: `d`'s own copies of the keys and of the values into VMEM;
  * its SEND cells 1, 2, 3: copy `k` of slot 0 to device `d - k` has been read out, and hands `d` the share of slot 0 it read from;
  * its RECEIVE cells 1, 2, 3: the copy from device `d + k` has landed in `d`'s slot `k`, and hands `d` that slot back,
    holding a table that `A (d + k)` describes.
  The send and receive cells number 0 are never used.

  `A c X` says what a landed slot of device `c`'s results looks like. Part of every slot is never written before it is
  copied, so the contents of a landing are described and not named.
-/
module

public import proofs.«01_k».proof.Proof.Gen.KernelIdeal.Frame
public import proofs.«01_k».proof.Proof.Gen.KernelIdeal.Skeleton
public import Idealize.ShloMosaic.Lib.Pipeline.RegionTalk
public import Idealize.ShloMosaic.Lib.Rounds

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The algebra: the pipeline's rounds and the exchange's -/

/-- The exchange's rounds: duties are numbered by `Fin 4`. -/
abbrev UT : Type := URounds (GSem nD τ sig) (Fin 4)
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

variable (m : (ℓ : Loc nD τ sig) → Buf (Elt F) ℓ)
variable (A : Dev nD → (S16x16x128.Idx → Elt F .f32) → Prop)

/-! ## The devices a device addresses -/

theorem dev1_eq (d : Dev nD) : (⟨k0_dev1 d, k0_dev1_lt d⟩ : Dev nD) = d + 1 := by revert d; decide
theorem dev2_eq (d : Dev nD) : (⟨k0_dev2 d, k0_dev2_lt d⟩ : Dev nD) = d + 2 := by revert d; decide
theorem dev3_eq (d : Dev nD) : (⟨k0_dev3 d, k0_dev3_lt d⟩ : Dev nD) = d + 3 := by revert d; decide
theorem dev4_eq (d : Dev nD) : (⟨k0_dev4 d, k0_dev4_lt d⟩ : Dev nD) = d - 3 := by revert d; decide
theorem dev5_eq (d : Dev nD) : (⟨k0_dev5 d, k0_dev5_lt d⟩ : Dev nD) = d - 2 := by revert d; decide
theorem dev6_eq (d : Dev nD) : (⟨k0_dev6 d, k0_dev6_lt d⟩ : Dev nD) = d - 1 := by revert d; decide

/-! ## Buffers, slots -/

abbrev kM : Memref sig .tc .vmem S16x16x64x128 .f32 := Memref.whole cc0_scratch0
abbrev vM : Memref sig .tc .vmem S16x16x64x128 .f32 := Memref.whole cc0_scratch1
abbrev commM : Memref sig .tc .vmem S4x16x16x128 .f32 := Memref.whole cc0_scratch2

theorem slot_inb (k : Fin 4) : ∀ a, ((![k.val, 0, 0, 0] : Fin 4 → ℕ)) a + S1x16x16x128.size a ≤ S4x16x16x128.size a := by
  revert k; decide

/-- Slot `k` of the exchange buffer, as the copies name it. -/
abbrev slotM (k : Fin 4) : Memref sig .tc .vmem S16x16x128 .f32 :=
  (commM.slice (Rect.unit (s := S4x16x16x128) ![k.val, 0, 0, 0] S1x16x16x128.size (slot_inb k)) (fun _ => rfl)).squeeze S16x16x128
    squeezes_S1x16x16x128_S16x16x128

/-- What a copy of a slot pays. -/
def N : ℕ := (slotM 0).view.dmaCredit
theorem N_pos : 0 < N := View.dmaCredit_pos _ (by decide)
/-- What a load of the keys or of the values pays. -/
def NL : ℕ := kM.view.dmaCredit
theorem NL_pos : 0 < NL := View.dmaCredit_pos _ (by decide)

/-- The exchange buffer's contents on a device. -/
abbrev Comm (c : Dev nD) : Type := Buf (Elt F) (commM.view.loc (c : Thread nD τ))

/-- Slot `k` of device `c` at share `q`. -/
abbrev slotPt (c : Dev nD) (k : Fin 4) (q : PosShare TreeShare) (f : Comm (F := F) c) : sProp 𝕄 :=
  (slotM k).view.loc (c : Thread nD τ) ↦[(slotM k).view.set]{q} f

/-- Slot 0 is read by three copies at once: the share each reads from. -/
def shr (k : Fin 4) : PosShare TreeShare :=
  if k = 1 then (fullShare : PosShare TreeShare).left else if k = 2 then (fullShare : PosShare TreeShare).right.left
  else (fullShare : PosShare TreeShare).right.right

/-- A whole buffer of a device. -/
abbrev pt (c : Dev nD) (b : Ref sig .tc) (f : b.ty.Contents (Elt F)) : sProp 𝕄 := (Memref.whole b).view.loc (c : Thread nD τ) ↦{fullShare} f

/-! ## Cells -/

abbrev barS : Sem sig := 0
abbrev ldS (i : Fin 2) : DmaSem sig := ⟨4 + i.val, by have := i.isLt; show _ < 14; omega⟩
abbrev sndS (k : Fin 4) : DmaSem sig := ⟨6 + k.val, by have := k.isLt; show _ < 14; omega⟩
abbrev rcvS (k : Fin 4) : DmaSem sig := ⟨10 + k.val, by have := k.isLt; show _ < 14; omega⟩

abbrev cellB (c : Dev nD) : GSem nD τ sig := ((c : Thread nD τ), .reg barS)
abbrev cellL (c : Dev nD) (i : Fin 2) : GSem nD τ sig := ((c : Thread nD τ), .dma (ldS i))
abbrev cellS (c : Dev nD) (k : Fin 4) : GSem nD τ sig := ((c : Thread nD τ), .dma (sndS k))
abbrev cellR (c : Dev nD) (k : Fin 4) : GSem nD τ sig := ((c : Thread nD τ), .dma (rcvS k))

/-- The region's own semaphores, in order. -/
abbrev osem : Fin 10 → SemLoc sig := fun i => .dma ⟨4 + i.val, by have := i.isLt; show _ < 14; omega⟩

/-- What a semaphore is for. -/
inductive Role
  | none | bar | ld (i : Fin 2) | snd (k : Fin 4) | rcv (k : Fin 4)
  deriving DecidableEq

def role : SemLoc sig → Role
  | .reg _ => .bar
  | .dma q =>
    if q.val < 4 then .none
    else if q.val < 6 then .ld (if q.val = 4 then 0 else 1)
    else if q.val < 10 then .snd (if q.val = 6 then 0 else if q.val = 7 then 1 else if q.val = 8 then 2 else 3)
    else .rcv (if q.val = 10 then 0 else if q.val = 11 then 1 else if q.val = 12 then 2 else 3)

theorem role_bar : role (.reg barS) = .bar := rfl
theorem role_ld (i : Fin 2) : role (.dma (ldS i)) = .ld i := by revert i; decide
theorem role_snd (k : Fin 4) : role (.dma (sndS k)) = .snd k := by revert k; decide
theorem role_rcv (k : Fin 4) : role (.dma (rcvS k)) = .rcv k := by revert k; decide

/-! ## The schedule -/

/-- Who pays: the barrier cell is paid by the devices 1, 2 and 3 before, every other cell by one payer. -/
def dutiesOf : Role → Finset (Fin 4)
  | .none => ∅ | .bar => {1, 2, 3} | .ld _ => {0} | .snd k => if k = 0 then ∅ else {0} | .rcv k => if k = 0 then ∅ else {0}
def unitsOf : Role → ℕ
  | .none => 1 | .bar => 1 | .ld _ => NL | .snd _ => N | .rcv _ => N

/-- What device `c` is handed. -/
def barPay (c : Dev nD) (j : Fin 4) : sProp 𝕄 := iprop((∃ f, slotPt (c - j) j fullShare f) ∗ reached ER (cellR (c - j) j) 0)
def ldPay (c : Dev nD) (i : Fin 2) : sProp 𝕄 :=
  if i = 0 then iprop(pt c cc0_scratch0 (V m c main_v1) ∗ pt c main_v1 (V m c main_v1))
  else iprop(pt c cc0_scratch1 (V m c main_v2) ∗ pt c main_v2 (V m c main_v2))
def sndPay (c : Dev nD) (k : Fin 4) : sProp 𝕄 :=
  iprop(∃ f, ⌜A c ((slotM 0).view.read (Elt F) f)⌝ ∗ slotPt c 0 (shr k) f)
def rcvPay (c : Dev nD) (k : Fin 4) : sProp 𝕄 :=
  iprop(∃ f, ⌜A (c + k) ((slotM k).view.read (Elt F) f)⌝ ∗ slotPt c k fullShare f)

def payOf (c : Dev nD) : Role → Fin 4 → sProp 𝕄
  | .none, _ => iprop(emp)
  | .bar, j => barPay c j
  | .ld i, _ => ldPay m c i
  | .snd k, _ => sndPay A c k
  | .rcv k, _ => rcvPay A c k

def talk : Rounds.Schedule (GSem nD τ sig) (Fin 4) 𝕄 where
  duties g r := if r = 0 ∧ g.1.2 = .tc then dutiesOf (role g.2) else ∅
  unitless _ := False
  amount g _ _ := unitsOf (role g.2)
  payload g _ d := payOf m A g.1.1 (role g.2) d
  amount_pos g _ _ _ := by
    cases role g.2 <;> dsimp only [unitsOf]
    · exact Nat.one_pos
    · exact Nat.one_pos
    · exact NL_pos
    · exact N_pos
    · exact N_pos

instance talk_storable (g : GSem nD τ sig) (r : ℕ) (d : Fin 4) :
    BI.Storable (upEmb : UEmb _ 𝕄) ((talk m A).payload g r d) := by
  show BI.Storable upEmb (payOf m A g.1.1 (role g.2) d)
  cases role g.2 <;> dsimp only [payOf]
  · infer_instance
  · unfold barPay; infer_instance
  · unfold ldPay; split <;> infer_instance
  · unfold sndPay; infer_instance
  · unfold rcvPay; infer_instance

section Sched

variable (c : Dev nD)

theorem duties_of (sm : SemLoc sig) : (talk m A).duties ((c : Thread nD τ), sm) 0 = dutiesOf (role sm) := by
  dsimp only [talk]; exact if_pos ⟨rfl, rfl⟩
theorem duties_later (g : GSem nD τ sig) : ∀ r, 1 ≤ r → (talk m A).duties g r = ∅ :=
  fun r hr => by dsimp only [talk]; rw [if_neg (fun h => by omega)]

theorem duties_bar : (talk m A).duties (cellB c) 0 = {1, 2, 3} := duties_of m A c _
theorem duties_ld (i : Fin 2) : (talk m A).duties (cellL c i) 0 = {0} := (duties_of m A c _).trans (by rw [role_ld]; rfl)
theorem duties_snd {k : Fin 4} (hk : k ≠ 0) : (talk m A).duties (cellS c k) 0 = {0} := (duties_of m A c _).trans (by rw [role_snd]; exact if_neg hk)
theorem duties_rcv {k : Fin 4} (hk : k ≠ 0) : (talk m A).duties (cellR c k) 0 = {0} := (duties_of m A c _).trans (by rw [role_rcv]; exact if_neg hk)
/-- The unused cells take no payment. -/
theorem duties_snd0 : ∀ r, 0 ≤ r → (talk m A).duties (cellS c 0) r = ∅
  | 0, _ => (duties_of m A c _).trans (by rw [role_snd]; rfl)
  | r + 1, _ => duties_later m A _ (r + 1) (by omega)
theorem duties_rcv0 : ∀ r, 0 ≤ r → (talk m A).duties (cellR c 0) r = ∅
  | 0, _ => (duties_of m A c _).trans (by rw [role_rcv]; rfl)
  | r + 1, _ => duties_later m A _ (r + 1) (by omega)

theorem amount_bar (j : Fin 4) : (talk m A).amount (cellB c) 0 j = 1 := rfl
theorem amount_ld (i : Fin 2) (j : Fin 4) : (talk m A).amount (cellL c i) 0 j = NL := by
  show unitsOf (role (.dma (ldS i))) = NL; rw [role_ld]; rfl
theorem amount_snd (k : Fin 4) (j : Fin 4) : (talk m A).amount (cellS c k) 0 j = N := by
  show unitsOf (role (.dma (sndS k))) = N; rw [role_snd]; rfl
theorem amount_rcv (k : Fin 4) (j : Fin 4) : (talk m A).amount (cellR c k) 0 j = N := by
  show unitsOf (role (.dma (rcvS k))) = N; rw [role_rcv]; rfl

theorem expect_bar : (talk m A).expect (cellB c) 0 = 3 := by
  unfold Schedule.expect Schedule.amountOf; rw [duties_bar, Finset.sum_congr rfl fun j _ => amount_bar m A c j]; rfl
theorem expect_ld (i : Fin 2) : (talk m A).expect (cellL c i) 0 = NL := by
  unfold Schedule.expect Schedule.amountOf; rw [duties_ld, Finset.sum_singleton, amount_ld]
theorem expect_snd {k : Fin 4} (hk : k ≠ 0) : (talk m A).expect (cellS c k) 0 = N := by
  unfold Schedule.expect Schedule.amountOf; rw [duties_snd m A c hk, Finset.sum_singleton, amount_snd]
theorem expect_rcv {k : Fin 4} (hk : k ≠ 0) : (talk m A).expect (cellR c k) 0 = N := by
  unfold Schedule.expect Schedule.amountOf; rw [duties_rcv m A c hk, Finset.sum_singleton, amount_rcv]

theorem payload_bar (j : Fin 4) : (talk m A).payload (cellB c) 0 j = barPay c j := rfl
theorem payload_ld (i : Fin 2) (j : Fin 4) : (talk m A).payload (cellL c i) 0 j = ldPay m c i := by
  show payOf m A c (role (.dma (ldS i))) j = _; rw [role_ld]; rfl
theorem payload_snd (k : Fin 4) (j : Fin 4) : (talk m A).payload (cellS c k) 0 j = sndPay A c k := by
  show payOf m A c (role (.dma (sndS k))) j = _; rw [role_snd]; rfl
theorem payload_rcv (k : Fin 4) (j : Fin 4) : (talk m A).payload (cellR c k) 0 j = rcvPay A c k := by
  show payOf m A c (role (.dma (rcvS k))) j = _; rw [role_rcv]; rfl

theorem rest_bar : bigSep ((talk m A).duties (cellB c) 0 \ ∅) (fun j => (talk m A).payload (cellB c) 0 j)
    = (iprop(barPay c 1 ∗ barPay c 2 ∗ barPay c 3) : sProp 𝕄) := by
  rw [Finset.sdiff_empty, duties_bar, bigSep_insert (by decide), bigSep_insert (by decide), bigSep_singleton]; rfl
theorem rest_ld (i : Fin 2) : bigSep ((talk m A).duties (cellL c i) 0 \ ∅) (fun j => (talk m A).payload (cellL c i) 0 j) = ldPay m c i := by
  rw [Finset.sdiff_empty, duties_ld, bigSep_singleton, payload_ld]
theorem rest_snd {k : Fin 4} (hk : k ≠ 0) : bigSep ((talk m A).duties (cellS c k) 0 \ ∅) (fun j => (talk m A).payload (cellS c k) 0 j) = sndPay A c k := by
  rw [Finset.sdiff_empty, duties_snd m A c hk, bigSep_singleton, payload_snd]
theorem rest_rcv {k : Fin 4} (hk : k ≠ 0) : bigSep ((talk m A).duties (cellR c k) 0 \ ∅) (fun j => (talk m A).payload (cellR c k) 0 j) = rcvPay A c k := by
  rw [Finset.sdiff_empty, duties_rcv m A c hk, bigSep_singleton, payload_rcv]

end Sched

/-! ## What a device owes; the levels -/

abbrev aR (c : Dev nD) (k : Fin 4) : CellTallies nD τ sig Unit := tallyAt (cellR (c - k) k) () N
abbrev aB (c : Dev nD) (j : Fin 4) : CellTallies nD τ sig Unit := tallyAt (cellB (c + j)) () 1
/-- The three landings. -/
abbrev OR (c : Dev nD) : CellTallies nD τ sig Unit := aR c 1 + aR c 2 + aR c 3
/-- At launch: the three landings and the three signals. -/
def O₀ (c : Dev nD) : CellTallies nD τ sig Unit := OR c + aB c 3 + aB c 2 + aB c 1

def L (g : GSem nD τ sig) : Finset Unit := if g.1.2 = .tc then {()} else ∅
/-- Barrier cells 1, receive cells 2, the rest 0. -/
def lv (g : GSem nD τ sig) (_ : Unit) : ℕ := match role g.2 with | .bar => 1 | .rcv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by
  rw [L_tc]; exact Finset.mem_singleton_self _
theorem lv_bar (c : Dev nD) (u : Unit) : lv (cellB c) u = 1 := rfl
theorem lv_rcv (c : Dev nD) (k : Fin 4) (u : Unit) : lv (cellR c k) u = 2 := by unfold lv; rw [role_rcv]
theorem lv_ld (c : Dev nD) (i : Fin 2) (u : Unit) : lv (cellL c i) u = 0 := by unfold lv; rw [role_ld]

theorem tally_pos {g g' : GSem nD τ sig} {n : ℕ} {u : Unit} (h : 0 < (tallyAt g () n : CellTallies nD τ sig Unit) g' u) : g' = g := by
  rw [tallyAt_apply] at h
  split at h
  · next hg => exact hg.1
  · exact absurd h (Nat.lt_irrefl 0)

theorem add_pos_or {O O' : CellTallies nD τ sig Unit} {g : GSem nD τ sig} {u : Unit} (h : 0 < (O + O') g u) : 0 < O g u ∨ 0 < O' g u := by
  rw [Pi.add_apply, Finsupp.add_apply] at h
  exact Nat.add_pos_iff_pos_or_pos.mp h

theorem OR_pos {c : Dev nD} {g : GSem nD τ sig} {u : Unit} (h : 0 < OR c g u) : ∃ k, g = cellR (c - k) k := by
  rcases add_pos_or h with h | h
  · rcases add_pos_or h with h | h
    · exact ⟨1, tally_pos h⟩
    · exact ⟨2, tally_pos h⟩
  · exact ⟨3, tally_pos h⟩

theorem O₀_pos {c : Dev nD} {g : GSem nD τ sig} {u : Unit} (h : 0 < O₀ c g u) : (∃ k, g = cellR (c - k) k) ∨ ∃ j, g = cellB (c + j) := by
  unfold O₀ at h
  rcases add_pos_or h with h | h
  · rcases add_pos_or h with h | h
    · rcases add_pos_or h with h | h
      · exact .inl (OR_pos h)
      · exact .inr ⟨3, tally_pos h⟩
    · exact .inr ⟨2, tally_pos h⟩
  · exact .inr ⟨1, tally_pos h⟩

/-- A device may wait on its barrier cell while it owes the landings, -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp]; exact mem_L _ _ _)
    (fun g u hg => by obtain ⟨k, rfl⟩ := OR_pos hg; exact mem_L _ _ _)
    (fun p hp => by rw [Finset.mem_singleton.mp hp]; exact (lv_bar c ()).le)
    (fun g u hg => by obtain ⟨k, rfl⟩ := OR_pos hg; rw [lv_rcv]; decide)

/-- and on its load cells. -/
theorem mayWait_ld (c : Dev nD) (i : Fin 2) : (levAts L lv : sProp 𝕄) ⊢ MayWait (c : Thread nD τ) (.dma (ldS i)) () (OR c) :=
  MayOwe.of_cut (L := L) (lev := lv) 1 (fun p hp => by rw [Finset.mem_singleton.mp hp]; exact mem_L _ _ _)
    (fun g u hg => by obtain ⟨k, rfl⟩ := OR_pos hg; exact mem_L _ _ _)
    (fun p hp => by rw [Finset.mem_singleton.mp hp]; exact (lv_ld c i ()).le.trans (by decide))
    (fun g u hg => by obtain ⟨k, rfl⟩ := OR_pos hg; rw [lv_rcv]; decide)

/-! ## The protocol's ghost state -/

def barEmb : Dev nD ↪ GSem nD τ sig := ⟨fun c => cellB c, fun _ _ h => congrArg (fun g : GSem nD τ sig => g.1.1) h⟩
theorem osem_inj : Function.Injective osem := by decide
def scEmb : Dev nD × Fin 10 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb
abbrev cells : Finset (GSem nD τ sig) := barCells ∪ scCells

theorem bar_mem (c : Dev nD) : cellB c ∈ cells :=
  Finset.mem_union_left _ (Finset.mem_map_of_mem barEmb (Finset.mem_univ c))
theorem sc_mem (c : Dev nD) (i : Fin 10) : ((c : Thread nD τ), osem i) ∈ cells :=
  Finset.mem_union_right _ (Finset.mem_map_of_mem scEmb (Finset.mem_univ (c, i)))
theorem ld_mem (c : Dev nD) (i : Fin 2) : cellL c i ∈ cells := by fin_cases i; exacts [sc_mem c 0, sc_mem c 1]
theorem snd_mem (c : Dev nD) (k : Fin 4) : cellS c k ∈ cells := by
  fin_cases k; exacts [sc_mem c 2, sc_mem c 3, sc_mem c 4, sc_mem c 5]
theorem rcv_mem (c : Dev nD) (k : Fin 4) : cellR c k ∈ cells := by
  fin_cases k; exacts [sc_mem c 6, sc_mem c 7, sc_mem c 8, sc_mem c 9]

/-- What every device may consult: all the invariants, at the names `κ`; that every barrier cell is open. -/
def records (κ : GSem nD τ sig → ℕ) : sProp 𝕄 :=
  iprop((bigSep cells fun g => cellInv ER (talk m A) (κ g) g) ∗ bigSep barCells fun g => reached ER g 0)

instance records_persistent (κ : GSem nD τ sig → ℕ) : BI.Persistent (records m A κ) := by unfold records; infer_instance

theorem inv_at (κ : GSem nD τ sig → ℕ) {g : GSem nD τ sig} (hg : g ∈ cells) : records m A κ ⊢ cellInv ER (talk m A) (κ g) g := by
  unfold records
  exact sep_elim_left.trans (bigSep_elim (Φ := fun g => (cellInv ER (talk m A) (κ g) g : sProp 𝕄)) hg)
theorem reached_at (κ : GSem nD τ sig → ℕ) (c : Dev nD) : records m A κ ⊢ reached ER (cellB c) 0 := by
  unfold records
  exact sep_elim_right.trans (bigSep_elim (Φ := fun g => (reached ER g 0 : sProp 𝕄)) (Finset.mem_map_of_mem barEmb (Finset.mem_univ c)))

/-- The tokens of the duties device `c` pays. -/
def payToks (c : Dev nD) : sProp 𝕄 :=
  iprop((dutyTok ER (cellB (c + 1)) 0 1 ∗ dutyTok ER (cellB (c + 2)) 0 2 ∗ dutyTok ER (cellB (c + 3)) 0 3)
    ∗ (dutyTok ER (cellL c 0) 0 0 ∗ dutyTok ER (cellL c 1) 0 0)
    ∗ (dutyTok ER (cellS c 1) 0 0 ∗ dutyTok ER (cellS c 2) 0 0 ∗ dutyTok ER (cellS c 3) 0 0)
    ∗ (dutyTok ER (cellR (c - 1) 1) 0 0 ∗ dutyTok ER (cellR (c - 2) 2) 0 0 ∗ dutyTok ER (cellR (c - 3) 3) 0 0))

/-- From launch to the region: the barrier position, the rights to open the region's own cells, the tokens. -/
def linear (c : Dev nD) : sProp 𝕄 :=
  iprop(atPos ER (cellB c) 0 ∅ 0 ∗ (bigSep Finset.univ fun i : Fin 10 => openTok ER ((c : Thread nD τ), osem i)) ∗ payToks c)

/-- The credit a device waits with. -/
def credits (c : Dev nD) : sProp 𝕄 :=
  iprop(cred (tallyAt (cellB c) () 3) ∗ cred (tallyAt (cellR c 1) () N) ∗ cred (tallyAt (cellR c 2) () N) ∗ cred (tallyAt (cellR c 3) () N))

/-- Inside the region, its own cells open. -/
def opened (κ : GSem nD τ sig → ℕ) (c : Dev nD) : sProp 𝕄 :=
  iprop(records m A κ ∗ atPos ER (cellB c) 0 ∅ 0
    ∗ (bigSep Finset.univ fun i : Fin 10 => iprop(atPos ER ((c : Thread nD τ), osem i) 0 ∅ 0 ∗ reached ER ((c : Thread nD τ), osem i) 0)) ∗ payToks c)

theorem close (κ : ℕ) (g : GSem nD τ sig) :
    iprop(cellInv ER (talk m A) κ g ∗ atPos ER g (0 + 1) ∅ 0) ⊢ (|={Set.univ}=> semVal g 0 : sProp 𝕄) :=
  Rounds.cell_close ER (talk m A) (Set.mem_univ κ) id (duties_later m A g)

/-- A cell that takes no payment at all closes where it opened. -/
theorem close0 (κ : ℕ) (g : GSem nD τ sig) (h : ∀ r, 0 ≤ r → (talk m A).duties g r = ∅) :
    iprop(cellInv ER (talk m A) κ g ∗ atPos ER g 0 ∅ 0) ⊢ (|={Set.univ}=> semVal g 0 : sProp 𝕄) :=
  Rounds.cell_close ER (talk m A) (Set.mem_univ κ) id h

abbrev 𝒱₀ : Variants := Variants.none

end Cert.KernelIdeal.Talk

end
-- ==== Proof.IdealSlots.lean ====
/-
  The exchange buffer: its four slots as sets of elements, and how slot 0 is filled.

  A device fills slot 0 with three tables: for head `h` and batch row `b` it puts the 64 lanes of an accumulated output, a
  running maximum in lane 64 and a running sum in lane 65. All three tables are stored row `h * 16 + b`. The store is made
  in 48 pieces, three per head; `Done n` says that the first `n` pieces are in place.
-/
module

public import proofs.«01_k».proof.Proof.IdealProtocol
public import Idealize.ShloMosaic.Lib.Pointwise.Reshape
public import Idealize.ShloMosaic.Lib.Pipeline.Value
public import Idealize.ShloMosaic.Lib.Ring

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Slots as sets of elements -/

abbrev slotR (k : Fin 4) : Rect S4x16x16x128 := Rect.unit (s := S4x16x16x128) ![k.val, 0, 0, 0] S1x16x16x128.size (slot_inb k)

theorem slot_set (k : Fin 4) : (slotM k).view.set = (slotR k).set :=
  (View.set_reshape (v := (commM.slice (slotR k) (fun _ => rfl)).view) squeezes_S1x16x16x128_S16x16x128.numel_eq).trans
    (View.set_slice_whole cc0_scratch2 (slotR k))

theorem mem_slot {k : Fin 4} {i : S4x16x16x128.Idx} : i ∈ (slotM k).view.set ↔ i 0 = k := by
  rw [slot_set]
  show i ∈ (slotR k).set ↔ _
  rw [Rect.mem_set_unit]
  constructor
  · intro h
    have h0 := h 0
    have e : (k : ℕ) ≤ (i 0).val ∧ (i 0).val < (k : ℕ) + 1 := h0
    exact Fin.ext (by omega)
  · rintro h a
    match a with
    | 0 => exact (show k.val ≤ (i 0).val ∧ (i 0).val < k.val + 1 from by rw [h]; omega)
    | 1 => exact ⟨Nat.zero_le _, lt_of_lt_of_eq (i 1).isLt (Nat.zero_add _).symm⟩
    | 2 => exact ⟨Nat.zero_le _, lt_of_lt_of_eq (i 2).isLt (Nat.zero_add _).symm⟩
    | 3 => exact ⟨Nat.zero_le _, lt_of_lt_of_eq (i 3).isLt (Nat.zero_add _).symm⟩

theorem slot_disj (k k' : Fin 4) (h : k ≠ k') : Disjoint ((slotM k).view.set) ((slotM k').view.set) :=
  Finset.disjoint_left.mpr fun i hi hi' => h ((mem_slot.mp hi).symm.trans (mem_slot.mp hi'))

/-- The elements of slot `k`. -/
def slotSet (k : Fin 4) : Finset S4x16x16x128.Idx := (slotM k).view.set

theorem slot_cover : Finset.univ.biUnion slotSet = Finset.univ :=
  Finset.eq_univ_iff_forall.mpr fun i => Finset.mem_biUnion.mpr ⟨i 0, Finset.mem_univ _, mem_slot.mpr rfl⟩

/-- Slot `k` read at an index is the buffer at that index of slot `k`. -/
theorem slot_read (k : Fin 4) (f : cc0_scratch2.ty.Contents (Elt F)) (b h : Fin 16) (l : Fin 128) :
    (slotM k).view.read (Elt F) f (ix3 b h l) = f (ix4 k b h l) := by
  refine (congrFun (Memref.read_squeeze_slice commM (slotR k) (fun _ => rfl) squeezes_S1x16x16x128_S16x16x128
    squeezes_S1x16x16x128_S16x16x128.numel_eq f) (ix3 b h l)).trans ?_
  have e : ∀ x : S1x16x16x128.Idx → Elt F .f32, shapeCast S16x16x128 x squeezes_S1x16x16x128_S16x16x128.numel_eq (ix3 b h l)
      = x (ix4 (0 : Fin 1) b h l) := fun x => by simp only [pointwise]
  refine (e _).trans ?_
  · show f ((slotR k).emb _) = _
    refine congrArg f (funext fun a => Fin.ext ?_)
    match a with
    | 0 => exact (Nat.add_zero _)
    | 1 => exact (Nat.zero_add _).trans (Nat.one_mul _)
    | 2 => exact (Nat.zero_add _).trans (Nat.one_mul _)
    | 3 => exact (Nat.zero_add _).trans (Nat.one_mul _)

/-! ## Filling slot 0 -/

/-- Row `h * 16 + b` of a table. -/
abbrev row (b h : Fin 16) : Fin 256 := ⟨h.val * 16 + b.val, by omega⟩

/-- The three tables side by side, as slot 0 holds them. -/
def tabs (O : FVec F S256x64 .f32) (M L : FVec F S256x1 .f32) (b h : Fin 16) (l : Fin 128) : Elt F .f32 :=
  if hl : l.val < 64 then O (ix2 (row b h) (⟨l.val, hl⟩ : Fin 64))
  else if l.val = 64 then M (ix2 (row b h) (0 : Fin 1)) else L (ix2 (row b h) (0 : Fin 1))

/-- The first `n` of the 48 pieces are in place. -/
def Done (O : FVec F S256x64 .f32) (M L : FVec F S256x1 .f32) (n : ℕ) (f : cc0_scratch2.ty.Contents (Elt F)) : Prop :=
  ∀ (b h : Fin 16) (l : Fin 128), l.val < 66 → 3 * h.val + (l.val - 63) < n → f (ix4 (0 : Fin 4) b h l) = tabs O M L b h l

theorem done_zero (O : FVec F S256x64 .f32) (M L : FVec F S256x1 .f32) (f : cc0_scratch2.ty.Contents (Elt F)) : Done O M L 0 f :=
  fun _ _ _ _ h => absurd h (Nat.not_lt_zero _)

/-- The pieces of the tables a store writes. -/
theorem sl64 (h : Fin 16) : S256x64.Slices ![16 * h.val, 0] S16x64 := by revert h; decide
theorem sl1 (h : Fin 16) : S256x1.Slices ![16 * h.val, 0] S16x1 := by revert h; decide
def pieceO (h : Fin 16) (O : FVec F S256x64 .f32) : FVec F S1x16x1x64 .f32 :=
  shapeCast S1x16x1x64 (extractStridedSlice S16x64 ![16 * h.val, 0] O (sl64 h)) shapeCasts_S16x64_S1x16x1x64
def piece1 (h : Fin 16) (M : FVec F S256x1 .f32) : FVec F S1x16x1x1 .f32 :=
  shapeCast S1x16x1x1 (extractStridedSlice S16x1 ![16 * h.val, 0] M (sl1 h)) shapeCasts_S16x1_S1x16x1x1

theorem pieceO_apply (h : Fin 16) (O : FVec F S256x64 .f32) (b : Fin 16) (l : Fin 64) :
    pieceO h O (ix4 (0 : Fin 1) b (0 : Fin 1) l) = O (ix2 (row b h) l) := by
  unfold pieceO
  have e : ∀ x : S16x64.Idx → Elt F .f32, shapeCast S1x16x1x64 x shapeCasts_S16x64_S1x16x1x64 (ix4 (0 : Fin 1) b (0 : Fin 1) l)
      = x (ix2 b l) := fun x => by simp only [pointwise]
  refine (e _).trans (extractStridedSlice_apply _ _ _ _ (ix2 (row b h) l) ?_)
  · intro a
    match a with
    | 0 => exact (show h.val * 16 + b.val = 16 * h.val + b.val from by omega)
    | 1 => exact (show l.val = 0 + l.val from by omega)
theorem piece1_apply (h : Fin 16) (M : FVec F S256x1 .f32) (b : Fin 16) :
    piece1 h M (ix4 (0 : Fin 1) b (0 : Fin 1) (0 : Fin 1)) = M (ix2 (row b h) (0 : Fin 1)) := by
  unfold piece1
  have e : ∀ x : S16x1.Idx → Elt F .f32, shapeCast S1x16x1x1 x shapeCasts_S16x1_S1x16x1x1 (ix4 (0 : Fin 1) b (0 : Fin 1) (0 : Fin 1))
      = x (ix2 b (0 : Fin 1)) := fun x => by simp only [pointwise]
  refine (e _).trans (extractStridedSlice_apply _ _ _ _ (ix2 (row b h) (0 : Fin 1)) ?_)
  · intro a
    match a with
    | 0 => exact (show h.val * 16 + b.val = 16 * h.val + b.val from by omega)
    | 1 => exact rfl

theorem inbO (h : Fin 16) : ∀ a, ((![0, 0, h.val, 0] : Fin 4 → ℕ)) a + S1x16x1x64.size a ≤ S4x16x16x128.size a := by revert h; decide
theorem inbM (h : Fin 16) : ∀ a, ((![0, 0, h.val, 64] : Fin 4 → ℕ)) a + S1x16x1x1.size a ≤ S4x16x16x128.size a := by revert h; decide
theorem inbL (h : Fin 16) : ∀ a, ((![0, 0, h.val, 65] : Fin 4 → ℕ)) a + S1x16x1x1.size a ≤ S4x16x16x128.size a := by revert h; decide
abbrev rO (h : Fin 16) : Rect S4x16x16x128 := Rect.unit (s := S4x16x16x128) ![0, 0, h.val, 0] S1x16x1x64.size (inbO h)
abbrev rM (h : Fin 16) : Rect S4x16x16x128 := Rect.unit (s := S4x16x16x128) ![0, 0, h.val, 64] S1x16x1x1.size (inbM h)
abbrev rL (h : Fin 16) : Rect S4x16x16x128 := Rect.unit (s := S4x16x16x128) ![0, 0, h.val, 65] S1x16x1x1.size (inbL h)

section Put

variable (r : Rect S4x16x16x128) (w : r.shape.Idx → Elt F .f32) (f : cc0_scratch2.ty.Contents (Elt F))

theorem put_in (x : r.shape.Idx) {i : S4x16x16x128.Idx} (hi : r.emb x = i) : (commM.access r).write (Elt F) f w Finset.univ i = w x := by
  subst hi
  exact View.write_emb_of_mem (v := (commM.access r)) f w (Finset.mem_univ x)

theorem put_out {i : S4x16x16x128.Idx} (hi : i ∉ r.set) : (commM.access r).write (Elt F) f w Finset.univ i = f i :=
  View.write_of_not_mem (v := (commM.access r)) f w Finset.univ (by
    rw [View.setOn_univ]; exact fun h => hi ((View.set_slice_whole cc0_scratch2 r) ▸ h))

end Put

variable {O : FVec F S256x64 .f32} {M L : FVec F S256x1 .f32} {f : cc0_scratch2.ty.Contents (Elt F)}

theorem step_O (h : Fin 16) (hd : Done O M L (3 * h.val) f) :
    Done O M L (3 * h.val + 1) ((commM.access (rO h)).write (Elt F) f (pieceO h O) Finset.univ) := by
  intro b h' l hl hn
  by_cases he : h' = h ∧ l.val < 64
  · obtain ⟨rfl, hl'⟩ := he
    rw [put_in (rO h') (pieceO h' O) f (ix4 (0 : Fin 1) b (0 : Fin 1) (⟨l.val, hl'⟩ : Fin 64)) (funext fun a => Fin.ext (by
      match a with
      | 0 => rfl
      | 1 => exact (Nat.zero_add _).trans (Nat.one_mul _)
      | 2 => exact (Nat.add_zero _)
      | 3 => exact (Nat.zero_add _).trans (Nat.one_mul _))), pieceO_apply]
    unfold tabs; rw [dif_pos hl']
  · have hout : ix4 (0 : Fin 4) b h' l ∉ (rO h).set := by
      rw [Rect.mem_set_unit]
      intro hm
      have h2 : h.val ≤ h'.val ∧ h'.val < h.val + 1 := hm 2
      have h3 : 0 ≤ l.val ∧ l.val < 0 + 64 := hm 3
      exact he ⟨Fin.ext (by omega), by omega⟩
    rw [put_out _ _ _ hout]
    refine hd b h' l hl ?_
    by_contra hc
    exact he ⟨Fin.ext (by omega), by omega⟩

theorem step_M (h : Fin 16) (hd : Done O M L (3 * h.val + 1) f) :
    Done O M L (3 * h.val + 2) ((commM.access (rM h)).write (Elt F) f (piece1 h M) Finset.univ) := by
  intro b h' l hl hn
  by_cases he : h' = h ∧ l.val = 64
  · obtain ⟨rfl, hl'⟩ := he
    rw [put_in (rM h') (piece1 h' M) f (ix4 (0 : Fin 1) b (0 : Fin 1) (0 : Fin 1)) (funext fun a => Fin.ext (by
      match a with
      | 0 => rfl
      | 1 => exact (Nat.zero_add _).trans (Nat.one_mul _)
      | 2 => exact (Nat.add_zero _)
      | 3 => exact hl'.symm)), piece1_apply]
    unfold tabs; rw [dif_neg (by omega), if_pos hl']
  · have hout : ix4 (0 : Fin 4) b h' l ∉ (rM h).set := by
      rw [Rect.mem_set_unit]
      intro hm
      have h2 : h.val ≤ h'.val ∧ h'.val < h.val + 1 := hm 2
      have h3 : 64 ≤ l.val ∧ l.val < 64 + 1 := hm 3
      exact he ⟨Fin.ext (by omega), by omega⟩
    rw [put_out _ _ _ hout]
    refine hd b h' l hl ?_
    by_contra hc
    exact he ⟨Fin.ext (by omega), by omega⟩

theorem step_L (h : Fin 16) (hd : Done O M L (3 * h.val + 2) f) :
    Done O M L (3 * h.val + 3) ((commM.access (rL h)).write (Elt F) f (piece1 h L) Finset.univ) := by
  intro b h' l hl hn
  by_cases he : h' = h ∧ l.val = 65
  · obtain ⟨rfl, hl'⟩ := he
    rw [put_in (rL h') (piece1 h' L) f (ix4 (0 : Fin 1) b (0 : Fin 1) (0 : Fin 1)) (funext fun a => Fin.ext (by
      match a with
      | 0 => rfl
      | 1 => exact (Nat.zero_add _).trans (Nat.one_mul _)
      | 2 => exact (Nat.add_zero _)
      | 3 => exact hl'.symm)), piece1_apply]
    unfold tabs; rw [dif_neg (by omega), if_neg (by omega)]
  · have hout : ix4 (0 : Fin 4) b h' l ∉ (rL h).set := by
      rw [Rect.mem_set_unit]
      intro hm
      have h2 : h.val ≤ h'.val ∧ h'.val < h.val + 1 := hm 2
      have h3 : 65 ≤ l.val ∧ l.val < 65 + 1 := hm 3
      exact he ⟨Fin.ext (by omega), by omega⟩
    rw [put_out _ _ _ hout]
    refine hd b h' l hl ?_
    by_contra hc
    exact he ⟨Fin.ext (by omega), by omega⟩

/-! ## The two rules the filling uses -/

variable {c : Dev nD}

/-- Slot 0, with something known of its contents. -/
def Slot0 (c : Dev nD) (P : cc0_scratch2.ty.Contents (Elt F) → Prop) : sProp 𝕄 := iprop(∃ f, ⌜P f⌝ ∗ slotPt c 0 fullShare f)

/-- A store into slot 0. -/
theorem wp_put {α : Type} {Q : α → sProp 𝕄} {r : Rect S4x16x16x128} {w : r.shape.Idx → Elt F .f32} {hx : (commM.access r).Stores Finset.univ}
    {hm : (Finset.univ : Finset r.shape.Idx) = Finset.univ ∨ ∀ a, r.stride a = 1} {k : PUnit → Prog (TpuEff nD τ sig (Elt F) Λ₀ .tc) α}
    {P P' : cc0_scratch2.ty.Contents (Elt F) → Prop} (hr : r.set ⊆ (slotR 0).set)
    (hp : ∀ f, P f → P' ((commM.access r).write (Elt F) f w Finset.univ)) :
    (Slot0 c P : sProp 𝕄) ⊢ iprop((Slot0 c P' -∗ wp frame (wpE (defs₀ (F := F)) 𝒱₀ (c : Thread nD τ) none) Set.univ (k ⟨⟩) Q)
      -∗ wp frame (wpE (defs₀ (F := F)) 𝒱₀ (c : Thread nD τ) none) Set.univ (.op (.store commM r w Finset.univ hx hm) k) Q) := by
  unfold Slot0
  iintro ⟨%f, %hf, H⟩ Hk
  have hS : (commM.access r).setOn Finset.univ ⊆ (slotM 0).view.set := by
    rw [View.setOn_univ, slot_set]; exact (View.set_slice_whole cc0_scratch2 r).trans_subset hr
  iapply (wp_store 𝒱₀ (c : Thread nD τ) none Set.univ (m := commM) (r := r) (S := (slotM 0).view.set) (f := f) hS) $$ H
  iintro H
  iapply Hk
  iexists _
  isplitr
  · ipureintro; exact hp f hf
  · iexact H

/-- A load from slot 0 whose value is not used. -/
theorem wp_skip {α : Type} {Q : α → sProp 𝕄} {r : Rect S4x16x16x128} {hl : commM.view.LoadsAt r.toLoadRect} {k : (r.shape.Idx → Elt F .f32) → Prog (TpuEff nD τ sig (Elt F) Λ₀ .tc) α}
    {P : cc0_scratch2.ty.Contents (Elt F) → Prop} (hr : r.set ⊆ (slotR 0).set) :
    (Slot0 c P : sProp 𝕄) ⊢ iprop((∀ x, Slot0 c P -∗ wp frame (wpE (defs₀ (F := F)) 𝒱₀ (c : Thread nD τ) none) Set.univ (k x) Q)
      -∗ wp frame (wpE (defs₀ (F := F)) 𝒱₀ (c : Thread nD τ) none) Set.univ (.op (.load commM r.toLoadRect hl) k) Q) := by
  unfold Slot0
  iintro ⟨%f, %hf, H⟩ Hk
  have hS : (commM.access r).set ⊆ (slotM 0).view.set := by
    rw [slot_set]; exact (View.set_slice_whole cc0_scratch2 r).trans_subset hr
  iapply (wp_load_rect 𝒱₀ (c : Thread nD τ) none Set.univ (m := commM) (r := r) (S := (slotM 0).view.set) (f := f) hS) $$ H
  iintro H
  iapply Hk
  iexists f
  isplitr
  · ipureintro; exact hf
  · iexact H

theorem sub_O (h : Fin 16) : (rO h).set ⊆ (slotR 0).set := fun i hi => by
  have := mem_slot (k := 0) (i := i); rw [slot_set] at this
  refine this.mpr (Fin.ext ?_)
  have h0 : 0 ≤ (i 0).val ∧ (i 0).val < 0 + 1 := (Rect.mem_set_unit.mp hi) 0
  show (i 0).val = 0; omega
theorem sub_M (h : Fin 16) : (rM h).set ⊆ (slotR 0).set := fun i hi => by
  have := mem_slot (k := 0) (i := i); rw [slot_set] at this
  refine this.mpr (Fin.ext ?_)
  have h0 : 0 ≤ (i 0).val ∧ (i 0).val < 0 + 1 := (Rect.mem_set_unit.mp hi) 0
  show (i 0).val = 0; omega
theorem sub_L (h : Fin 16) : (rL h).set ⊆ (slotR 0).set := fun i hi => by
  have := mem_slot (k := 0) (i := i); rw [slot_set] at this
  refine this.mpr (Fin.ext ?_)
  have h0 : 0 ≤ (i 0).val ∧ (i 0).val < 0 + 1 := (Rect.mem_set_unit.mp hi) 0
  show (i 0).val = 0; omega

end Cert.KernelIdeal.Talk

end
-- ==== Proof.IdealComm.lean ====
/-
  The protocol's steps, each as one rule: start a load, signal a peer, wait on the barrier, wait for a load, send slot 0 to a
  peer, wait for a send and for a landing.
-/
module

public import proofs.«01_k».proof.Proof.IdealSlots

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (A : Dev nD → (S16x16x128.Idx → Elt F .f32) → Prop)

/-- What a device owes, whatever it has waited on. -/
def Ow (c : Dev nD) (O : CellTallies nD τ sig Unit) : sProp 𝕄 := iprop(∃ W, owes (c : Thread nD τ) O W)

/-! ## What a payment is made from -/

theorem barPay_of (c : Dev nD) (j : Fin 4) (f : Comm (F := F) c) :
    iprop(slotPt c j fullShare f ∗ reached ER (cellR c j) 0) ⊢ (barPay (c + j) j : sProp 𝕄) := by
  unfold barPay
  rw [add_sub_cancel_right]
  iintro ⟨H, HR⟩
  isplitl [H]
  · iexists f; iexact H
  · iexact HR

theorem sndPay_of (c : Dev nD) (k : Fin 4) (f : Comm (F := F) c) (hf : A c ((slotM 0).view.read (Elt F) f)) :
    slotPt c 0 (shr k) f ⊢ (sndPay A c k : sProp 𝕄) := by
  unfold sndPay
  iintro H
  iexists f
  isplitr
  · ipureintro; exact hf
  · iexact H

theorem rcvPay_of (c : Dev nD) (k : Fin 4) (f : Comm (F := F) c) (hf : A c ((slotM 0).view.read (Elt F) f)) (fd : Comm (F := F) (c - k)) :
    slotPt (c - k) k fullShare ((slotM k).view.write (Elt F) fd ((slotM 0).view.read (Elt F) f) Finset.univ) ⊢ (rcvPay A (c - k) k : sProp 𝕄) := by
  unfold rcvPay
  rw [sub_add_cancel]
  iintro H
  iexists _
  isplitr
  rotate_left
  · iexact H
  · ipureintro
    rw [View.read_write_univ]; exact hf

section Steps

variable {A}
variable {α : Type} (c : Dev nD) (κ : GSem nD τ sig → ℕ)

/-- Start the load of the keys, -/
theorem wp_load_k {Q : α → sProp 𝕄} {k : PUnit → Prog (TpuEff nD τ sig (Elt F) Λ₀ .tc) α} {h1 : (Memref.whole main_v1 : Memref sig .tc .hbm S16x16x64x128 .f32).view.WordExact}
    {h2 : kM.view.WordExact} {h3 : DmaTarget.Typed (nD := nD) (τ := τ) (p := .tc) .hbm (.dma (ldS 0)) (.here kM)} (f : cc0_scratch0.ty.Contents (Elt F)) :
    iprop(records m A κ ∗ pt c main_v1 (V m c main_v1) ∗ pt c cc0_scratch0 f ∗ dutyTok ER (cellL c 0) 0 0 ∗ reached ER (cellL c 0) 0)
      ⊢ iprop((cred (tallyAt (cellL c 0) () NL) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole main_v1) (.here kM) (.dma (ldS 0)) h1 h2 h3) k) Q) := by
  iintro ⟨#HR, Hs, Hd, Ht, Hr⟩
  iapply (Rounds.wp_copy_pointsTo 𝒱₀ ER (talk m A) (c : Thread nD τ) none (src := Memref.whole main_v1) (dst := kM) (sem := .dma (ldS 0)) (q := fullShare)
      (fs := V m c main_v1) (fd := f) (r := 0) (d := 0) (κ := κ (cellL c 0))
      (by rw [duties_ld]; exact Finset.mem_singleton_self _) () NL rfl (amount_ld m A c 0 0)
      (by rw [payload_ld]; unfold ldPay; rw [if_pos rfl, View.set_whole, View.set_whole, View.write_whole_univ, View.read_whole])) $$ [Hs Hd Ht Hr]
  isplitr; · iapply (inv_at m A κ (ld_mem c 0)); iexact HR
  rw [View.set_whole, View.set_whole]
  isplitl [Hs]; · iexact Hs
  isplitl [Hd]; · iexact Hd
  isplitl [Ht]; · iexact Ht
  iexact Hr

/-- and of the values. -/
theorem wp_load_v {Q : α → sProp 𝕄} {k : PUnit → Prog (TpuEff nD τ sig (Elt F) Λ₀ .tc) α} {h1 : (Memref.whole main_v2 : Memref sig .tc .hbm S16x16x64x128 .f32).view.WordExact}
    {h2 : vM.view.WordExact} {h3 : DmaTarget.Typed (nD := nD) (τ := τ) (p := .tc) .hbm (.dma (ldS 1)) (.here vM)} (f : cc0_scratch1.ty.Contents (Elt F)) :
    iprop(records m A κ ∗ pt c main_v2 (V m c main_v2) ∗ pt c cc0_scratch1 f ∗ dutyTok ER (cellL c 1) 0 0 ∗ reached ER (cellL c 1) 0)
      ⊢ iprop((cred (tallyAt (cellL c 1) () NL) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole main_v2) (.here vM) (.dma (ldS 1)) h1 h2 h3) k) Q) := by
  iintro ⟨#HR, Hs, Hd, Ht, Hr⟩
  iapply (Rounds.wp_copy_pointsTo 𝒱₀ ER (talk m A) (c : Thread nD τ) none (src := Memref.whole main_v2) (dst := vM) (sem := .dma (ldS 1)) (q := fullShare)
      (fs := V m c main_v2) (fd := f) (r := 0) (d := 0) (κ := κ (cellL c 1))
      (by rw [duties_ld]; exact Finset.mem_singleton_self _) () NL rfl (amount_ld m A c 1 0)
      (by rw [payload_ld]; unfold ldPay; rw [if_neg (by decide), View.set_whole, View.set_whole, View.write_whole_univ, View.read_whole])) $$ [Hs Hd Ht Hr]
  isplitr; · iapply (inv_at m A κ (ld_mem c 1)); iexact HR
  rw [View.set_whole, View.set_whole]
  isplitl [Hs]; · iexact Hs
  isplitl [Hd]; · iexact Hd
  isplitl [Ht]; · iexact Ht
  iexact Hr

/-- Signal the `j`-th device ahead: it is handed slot `j`. -/
theorem wp_tell {Q : α → sProp 𝕄} {k : PUnit → Prog (TpuEff nD τ sig (Elt F) Λ₀ .tc) α} (j : Fin 4) (hj : j ∈ ({1, 2, 3} : Finset (Fin 4)))
    (O : CellTallies nD τ sig Unit) :
    iprop(records m A κ ∗ Ow c (O + aB c j) ∗ dutyTok ER (cellB (c + j)) 0 j ∗ (∃ f, slotPt c j fullShare f) ∗ reached ER (cellR c j) 0)
      ⊢ iprop((Ow c O -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((c + j : Dev nD) : Thread nD τ) barS 1) k) Q) := by
  unfold Ow
  iintro ⟨#HR, ⟨%W, HO⟩, Ht, ⟨%f, Hs⟩, Hr⟩ Hk
  iapply (Rounds.wp_signal 𝒱₀ ER (talk m A) (c : Thread nD τ) none (dst := ((c + j : Dev nD) : Thread nD τ)) (sem := barS) (r := 0) (d := j) (κ := κ (cellB (c + j)))
      (by rw [duties_bar]; exact hj) (amount_bar m A (c + j) j) () O rfl) $$ [HO Ht Hs Hr]
  · isplitr; · iapply (inv_at m A κ (bar_mem (c + j))); iexact HR
    isplitl [HO]; · iexact HO
    isplitl [Ht]; · iexact Ht
    isplitl [Hs Hr]
    · rw [payload_bar]; iapply (barPay_of c j f)
      isplitl [Hs]; · iexact Hs
      iexact Hr
    · iapply (reached_at m A κ (c + j)); iexact HR
  iintro HO
  iapply Hk
  iexists W; iexact HO

/-- Wait for the three signals: the slots the device will write are its own. -/
theorem wp_meet {Q : α → sProp 𝕄} {k : PUnit → Prog (TpuEff nD τ sig (Elt F) Λ₀ .tc) α} :
    iprop(records m A κ ∗ cred (tallyAt (cellB c) () 3) ∗ Ow c (OR c) ∗ levAts L lv ∗ atPos ER (cellB c) 0 ∅ 0)
      ⊢ iprop((Ow c (OR c) ∗ atPos ER (cellB c) (0 + 1) ∅ 0 ∗ barPay c 1 ∗ barPay c 2 ∗ barPay c 3
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  unfold Ow
  iintro ⟨#HR, Hc, ⟨%W, HO⟩, #Hlev, Ha⟩ Hk
  iapply (Rounds.wp_wait_rest_token 𝒱₀ ER (talk m A) (c : Thread nD τ) none (κ := κ (cellB c))
      (wpE_semWait_eq 𝒱₀ (c : Thread nD τ) none Set.univ) (Set.mem_univ _) () (O := OR c) (W := W) (R := 0) (m := 0) (T := ∅)
      ((Nat.zero_add 3).trans (expect_bar m A c).symm)) $$ [Hc HO Ha]
  · isplitr; · iapply (inv_at m A κ (bar_mem c)); iexact HR
    isplitl [Hc]; · iexact Hc
    isplitl [HO]; · iexact HO
    isplitr; · iapply (mayWait_bar c); iexact Hlev
    iexact Ha
  iintro ⟨HO, Ha, -, Hpay⟩
  ihave Hp := (Entails.of_eq (rest_bar m A c)) $$ Hpay
  iapply Hk
  isplitl [HO]; · iexists _; iexact HO
  isplitl [Ha]; · iexact Ha
  iexact Hp

/-- Wait for a load. -/
theorem wp_fetched {Q : α → sProp 𝕄} {k : PUnit → Prog (TpuEff nD τ sig (Elt F) Λ₀ .tc) α} (i : Fin 2)
    {src : Memref sig .tc .hbm S16x16x64x128 .f32} {dst : Memref sig .tc .vmem S16x16x64x128 .f32} {h1 : src.view.WordExact} {h2 : dst.view.WordExact}
    (hN : dst.view.dmaCredit = NL) :
    iprop(records m A κ ∗ cred (tallyAt (cellL c i) () NL) ∗ Ow c (OR c) ∗ levAts L lv ∗ atPos ER (cellL c i) 0 ∅ 0)
      ⊢ iprop((Ow c (OR c) ∗ atPos ER (cellL c i) (0 + 1) ∅ 0 ∗ ldPay m c i
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ldS i) src dst h1 h2) k) Q) := by
  unfold Ow
  rw [← hN]
  iintro ⟨#HR, Hc, ⟨%W, HO⟩, #Hlev, Ha⟩ Hk
  iapply (Rounds.wp_wait_rest_token 𝒱₀ ER (talk m A) (c : Thread nD τ) none (κ := κ (cellL c i))
      (wpE_waitDma2_eq (src := src) (dst := dst) 𝒱₀ (c : Thread nD τ) none Set.univ) (Set.mem_univ _) () (O := OR c) (W := W) (R := 0) (m := 0) (T := ∅)
      ((Nat.zero_add _).trans (hN.trans (expect_ld m A c i).symm))) $$ [Hc HO Ha]
  · isplitr; · iapply (inv_at m A κ (ld_mem c i)); iexact HR
    isplitl [Hc]; · iexact Hc
    isplitl [HO]; · iexact HO
    isplitr; · iapply (mayWait_ld c i); iexact Hlev
    iexact Ha
  iintro ⟨HO, Ha, -, Hpay⟩
  ihave Hp := (Entails.of_eq (rest_ld m A c i)) $$ Hpay
  iapply Hk
  isplitl [HO]; · iexists _; iexact HO
  isplitl [Ha]; · iexact Ha
  iexact Hp

/-- Send slot 0 into slot `k` of the `k`-th device behind. -/
theorem wp_send_slot {Q : α → sProp 𝕄} {k : Fin 4} (hk : k ≠ 0) (n : Dev nD) (hn : n = c - k)
    {hsc : (slotM k : Memref sig (Dev.tc n : Thread nD τ).2.kind .vmem S16x16x128 .f32).view.ref.isScScratch = false}
    {h1 : (slotM 0).view.WordExact} {h2 : (slotM k).view.WordExact}
    {h3 : DmaTarget.Typed .vmem (.dma (rcvS k)) (.remote (Dev.tc n : Thread nD τ) (slotM k) (.dma (sndS k)) hsc)}
    {kk : PUnit → Prog (TpuEff nD τ sig (Elt F) Λ₀ .tc) α} (O : CellTallies nD τ sig Unit) (f : Comm (F := F) c) (hf : A c ((slotM 0).view.read (Elt F) f)) :
    iprop(records m A κ ∗ slotPt c 0 (shr k) f ∗ barPay c k ∗ Ow c (O + aR c k)
        ∗ dutyTok ER (cellS c k) 0 0 ∗ reached ER (cellS c k) 0 ∗ dutyTok ER (cellR (c - k) k) 0 0)
      ⊢ iprop((cred (tallyAt (cellS c k) () N) ∗ Ow c O -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM 0) (.remote (Dev.tc n : Thread nD τ) (slotM k) (.dma (sndS k)) hsc) (.dma (rcvS k)) h1 h2 h3) kk) Q) := by
  subst hn
  unfold Ow barPay
  iintro ⟨#HR, Hs, ⟨⟨%fd, Hd⟩, HrR⟩, ⟨%W, HO⟩, HtS, HrS, HtR⟩ Hk
  iapply (Rounds.wp_send_pointsTo 𝒱₀ ER (talk m A) (c : Thread nD τ) none (c' := ((c - k : Dev nD) : Thread nD τ)) (src := slotM 0) (dst := slotM k)
    (sS := .dma (sndS k)) (sem := .dma (rcvS k)) (q := shr k) (fs := f) (fd := fd)
    (κ₁ := κ (cellS c k)) (κ₂ := κ (cellR (c - k) k)) (r₁ := 0) (r₂ := 0) (d₁ := 0) (d₂ := 0)
    (by rw [duties_snd m A c hk]; exact Finset.mem_singleton_self _) (by rw [duties_rcv m A (c - k) hk]; exact Finset.mem_singleton_self _)
    () () N rfl (amount_snd m A c k 0) (amount_rcv m A (c - k) k 0) O rfl (W := W)
    (by rw [payload_snd]; exact sndPay_of A c k f hf)
    (by rw [payload_rcv]; exact rcvPay_of A c k f hf fd)) $$ [Hs Hd HO HtS HrS HtR HrR]
  · isplitr; · iapply (inv_at m A κ (snd_mem c k)); iexact HR
    isplitr; · iapply (inv_at m A κ (rcv_mem (c - k) k)); iexact HR
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨Hc, HO⟩
  iapply Hk
  isplitl [Hc]; · iexact Hc
  iexists W; iexact HO

/-- Wait for a send: the share of slot 0 it read comes back. -/
theorem wp_sent {Q : α → sProp 𝕄} {kk : PUnit → Prog (TpuEff nD τ sig (Elt F) Λ₀ .tc) α} {k : Fin 4} (hk : k ≠ 0)
    {src dst : Memref sig .tc .vmem S16x16x128 .f32} {h1 : src.view.WordExact} {h2 : dst.view.WordExact} (hN : dst.view.dmaCredit = N) :
    iprop(records m A κ ∗ cred (tallyAt (cellS c k) () N) ∗ Ow c 0 ∗ atPos ER (cellS c k) 0 ∅ 0)
      ⊢ iprop((Ow c 0 ∗ atPos ER (cellS c k) (0 + 1) ∅ 0 ∗ sndPay A c k
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sndS k) src dst h1 h2) kk) Q) := by
  unfold Ow
  rw [← hN]
  iintro ⟨#HR, Hc, ⟨%W, HO⟩, Ha⟩ Hk
  iapply (Rounds.wp_wait_rest_token 𝒱₀ ER (talk m A) (c : Thread nD τ) none (κ := κ (cellS c k))
      (wpE_waitDma2_eq (src := src) (dst := dst) 𝒱₀ (c : Thread nD τ) none Set.univ) (Set.mem_univ _) () (O := 0) (W := W) (R := 0) (m := 0) (T := ∅)
      ((Nat.zero_add _).trans (hN.trans (expect_snd m A c hk).symm))) $$ [Hc HO Ha]
  · isplitr; · iapply (inv_at m A κ (snd_mem c k)); iexact HR
    isplitl [Hc]; · iexact Hc
    isplitl [HO]; · iexact HO
    isplitr; · rw [MayWait_zero]; iempintro
    iexact Ha
  iintro ⟨HO, Ha, -, Hpay⟩
  ihave Hp := (Entails.of_eq (rest_snd m A c hk)) $$ Hpay
  iapply Hk
  isplitl [HO]; · iexists _; iexact HO
  isplitl [Ha]; · iexact Ha
  iexact Hp

/-- Wait for a landing: the slot comes back, with the sender's table in it. -/
theorem wp_landed {Q : α → sProp 𝕄} {kk : PUnit → Prog (TpuEff nD τ sig (Elt F) Λ₀ .tc) α} {k : Fin 4} (hk : k ≠ 0)
    {src dst : Memref sig .tc .vmem S16x16x128 .f32} {h1 : src.view.WordExact} {h2 : dst.view.WordExact} (hN : dst.view.dmaCredit = N) :
    iprop(records m A κ ∗ cred (tallyAt (cellR c k) () N) ∗ Ow c 0 ∗ atPos ER (cellR c k) 0 ∅ 0)
      ⊢ iprop((Ow c 0 ∗ atPos ER (cellR c k) (0 + 1) ∅ 0 ∗ rcvPay A c k
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (rcvS k) src dst h1 h2) kk) Q) := by
  unfold Ow
  rw [← hN]
  iintro ⟨#HR, Hc, ⟨%W, HO⟩, Ha⟩ Hk
  iapply (Rounds.wp_wait_rest_token 𝒱₀ ER (talk m A) (c : Thread nD τ) none (κ := κ (cellR c k))
      (wpE_waitDma2_eq (src := src) (dst := dst) 𝒱₀ (c : Thread nD τ) none Set.univ) (Set.mem_univ _) () (O := 0) (W := W) (R := 0) (m := 0) (T := ∅)
      ((Nat.zero_add _).trans (hN.trans (expect_rcv m A c hk).symm))) $$ [Hc HO Ha]
  · isplitr; · iapply (inv_at m A κ (rcv_mem c k)); iexact HR
    isplitl [Hc]; · iexact Hc
    isplitl [HO]; · iexact HO
    isplitr; · rw [MayWait_zero]; iempintro
    iexact Ha
  iintro ⟨HO, Ha, -, Hpay⟩
  ihave Hp := (Entails.of_eq (rest_rcv m A c hk)) $$ Hpay
  iapply Hk
  isplitl [HO]; · iexists _; iexact HO
  isplitl [Ha]; · iexact Ha
  iexact Hp

end Steps

end Cert.KernelIdeal.Talk

end
-- ==== Proof.IdealTables.lean ====
/-
  The tables a device computes from its inputs, a landed slot read back as the sender's tables, and the combined result.
-/
module

public import proofs.«01_k».proof.Proof.IdealSlots

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The tables -/

/-- A device's position, as the program computes it. -/
abbrev myOf (c : Dev nD) : BitVec 32 := Scalar.remsi (Scalar.divsi (Dev.word c) 1#32) 4#32

/-- The index along the pool pages, along the table's slots, and along the lanes. -/
abbrev poolIota : IVec S16x128x128 32 := iota .tc S16x128x128 32 [2] iota_S16x128x128_d2_w32
abbrev slotIota : IVec S16x128x128 32 := iota .tc S16x128x128 32 [1] iota_S16x128x128_d1_w32
abbrev laneIota : IVec S16x16x1024 32 := iota .tc S16x16x1024 32 [2] iota_S16x16x1024_d2_w32

section Tables

variable (q : FVec F S16x1x16x64 .f32) (bt : IVec S16x128 32) (ln : IVec S16x1 32) (kt vt : FVec F S16x16x64x128 .f32) (c : Dev nD)

/-- How often each page is listed, as a logarithm. -/
def tabW : FVec F S16x2048 .f32 := k0_pay2 (F := F) (Scalar.muli (myOf c) 128#32) (k0_pay1 (F := F) bt) poolIota slotIota ln
/-- The products of queries and keys. -/
def tabS : FVec F S256x2048 .f32 :=
  k0_pay11 (k0_pay6 (k0_pay3 q) laneIota 64#32 (k0_pay4)) (k0_pay7 kt) (k0_pay8 (k0_pay3 q) laneIota 64#32 (k0_pay4) kt)
    (k0_pay9 (k0_pay3 q) laneIota 64#32 (k0_pay4) kt) (k0_pay10 kt) (constant S256x128 .f32 0x00000000#32)
/-- The rows' maxima, -/
def tabM : FVec F S256x1 .f32 := k0_pay14 (tabS q kt) (k0_pay12 (tabW bt ln c))
/-- the rows' sums of exponentials, -/
def tabL : FVec F S256x1 .f32 := k0_pay16 (tabS q kt) (k0_pay12 (tabW bt ln c))
/-- the rows' weighted sums of values, before the fold to one head. -/
def tabA : FVec F S256x1024 .f32 :=
  k0_pay21 (k0_pay17 (tabS q kt) (k0_pay12 (tabW bt ln c))) (k0_pay18 vt) (k0_pay19 (tabS q kt) (k0_pay12 (tabW bt ln c)) vt)
    (k0_pay20 (tabS q kt) (k0_pay12 (tabW bt ln c)) vt)
def tabO : FVec F S256x64 .f32 :=
  k0_pay23 (k0_pay5 laneIota 64#32 (k0_pay4)) (tabA q bt ln kt vt c) (k0_pay22 (k0_pay17 (tabS q kt) (k0_pay12 (tabW bt ln c))) (k0_pay18 vt))

end Tables

/-! ## A slot full of tables -/

/-- Slot `k` holds the tables (in its first 66 lanes). -/
def Full (O : FVec F S256x64 .f32) (M L : FVec F S256x1 .f32) (k : Fin 4) (f : cc0_scratch2.ty.Contents (Elt F)) : Prop :=
  ∀ (b h : Fin 16) (l : Fin 128), l.val < 66 → f (ix4 k b h l) = tabs O M L b h l

theorem full_of_done (O : FVec F S256x64 .f32) (M L : FVec F S256x1 .f32) (f : cc0_scratch2.ty.Contents (Elt F)) (hf : Done O M L 48 f) :
    Full O M L 0 f := fun b h l hl => hf b h l hl (by have := h.isLt; omega)

/-- What lands is the sender's tables. -/
def Agrees (tO : Dev nD → FVec F S256x64 .f32) (tM tL : Dev nD → FVec F S256x1 .f32) (c : Dev nD) (X : S16x16x128.Idx → Elt F .f32) : Prop :=
  ∀ (b h : Fin 16) (l : Fin 128), l.val < 66 → X (ix3 b h l) = tabs (tO c) (tM c) (tL c) b h l

variable (tO : Dev nD → FVec F S256x64 .f32) (tM tL : Dev nD → FVec F S256x1 .f32)

theorem agrees_of_full (c : Dev nD) (k : Fin 4) (f : cc0_scratch2.ty.Contents (Elt F)) :
    Agrees tO tM tL c ((slotM k).view.read (Elt F) f) ↔ Full (tO c) (tM c) (tL c) k f :=
  ⟨fun h b hd l hl => (slot_read k f b hd l).symm.trans (h b hd l hl), fun h b hd l hl => (slot_read k f b hd l).trans (h b hd l hl)⟩

def SlotF (c : Dev nD) (k : Fin 4) (O : FVec F S256x64 .f32) (M L : FVec F S256x1 .f32) : sProp 𝕄 :=
  iprop(∃ f, ⌜Full O M L k f⌝ ∗ slotPt c k fullShare f)

theorem slotF_of_rcv (c : Dev nD) (k : Fin 4) :
    (rcvPay (Agrees tO tM tL) c k : sProp 𝕄) ⊢ SlotF c k (tO (c + k)) (tM (c + k)) (tL (c + k)) := by
  unfold rcvPay SlotF
  iintro ⟨%f, %hf, H⟩
  iexists f
  isplitr
  · ipureintro; exact (agrees_of_full tO tM tL (c + k) k f).mp hf
  · iexact H

/-! ## Reading a slot -/

/-- A table as the combine loads it. -/
def getO (O : FVec F S256x64 .f32) : FVec F S1x16x16x64 .f32 := fun j => O (ix2 (row (j 1) (j 2)) (j 3))
def get1 (M : FVec F S256x1 .f32) : FVec F S1x16x16x1 .f32 := fun j => M (ix2 (row (j 1) (j 2)) (0 : Fin 1))

theorem inbGO (k : Fin 4) : ∀ a, ((![k.val, 0, 0, 0] : Fin 4 → ℕ)) a + S1x16x16x64.size a ≤ S4x16x16x128.size a := by revert k; decide
theorem inbGM (k : Fin 4) : ∀ a, ((![k.val, 0, 0, 64] : Fin 4 → ℕ)) a + S1x16x16x1.size a ≤ S4x16x16x128.size a := by revert k; decide
theorem inbGL (k : Fin 4) : ∀ a, ((![k.val, 0, 0, 65] : Fin 4 → ℕ)) a + S1x16x16x1.size a ≤ S4x16x16x128.size a := by revert k; decide
abbrev gO (k : Fin 4) : Rect S4x16x16x128 := Rect.unit (s := S4x16x16x128) ![k.val, 0, 0, 0] S1x16x16x64.size (inbGO k)
abbrev gM (k : Fin 4) : Rect S4x16x16x128 := Rect.unit (s := S4x16x16x128) ![k.val, 0, 0, 64] S1x16x16x1.size (inbGM k)
abbrev gL (k : Fin 4) : Rect S4x16x16x128 := Rect.unit (s := S4x16x16x128) ![k.val, 0, 0, 65] S1x16x16x1.size (inbGL k)

theorem wp_peek {c : Dev nD} {α : Type} {Q : α → sProp 𝕄} {k : Fin 4} {O : FVec F S256x64 .f32} {M L : FVec F S256x1 .f32} {r : Rect S4x16x16x128}
    {w : r.shape.Idx → Elt F .f32} {hl : commM.view.LoadsAt r.toLoadRect} {kk : (r.shape.Idx → Elt F .f32) → Prog (TpuEff nD τ sig (Elt F) Λ₀ .tc) α}
    (hr : ∀ i, i ∈ r.set → i 0 = k) (hv : ∀ f, Full O M L k f → ∀ x, f (r.emb x) = w x) :
    (SlotF c k O M L : sProp 𝕄) ⊢ iprop((SlotF c k O M L -∗ wp frame (wpE (defs₀ (F := F)) 𝒱₀ (c : Thread nD τ) none) Set.univ (kk w) Q)
      -∗ wp frame (wpE (defs₀ (F := F)) 𝒱₀ (c : Thread nD τ) none) Set.univ (.op (.load commM r.toLoadRect hl) kk) Q) := by
  unfold SlotF
  iintro ⟨%f, %hf, H⟩ Hk
  have hS : (commM.access r).set ⊆ (slotM k).view.set := fun i hi =>
    mem_slot.mpr (hr i ((View.set_slice_whole cc0_scratch2 r).subset hi))
  iapply (wp_load_rect 𝒱₀ (c : Thread nD τ) none Set.univ (m := commM) (r := r) (S := (slotM k).view.set) (f := f) hS) $$ H
  iintro H
  rw [show (commM.access r).read (Elt F) f = w from funext fun x => hv f hf x]
  iapply Hk
  iexists f
  isplitr
  · ipureintro; exact hf
  · iexact H

theorem emb_at {off : Fin 4 → ℕ} {sz : Fin 4 → ℕ} {inb : ∀ a, off a + sz a ≤ S4x16x16x128.size a}
    (x : (Rect.unit (s := S4x16x16x128) off sz inb).shape.Idx) (k : Fin 4) (b h : Fin 16) (l : Fin 128)
    (h0 : off 0 + (x 0).val = k.val) (h1 : off 1 + (x 1).val = b.val) (h2 : off 2 + (x 2).val = h.val) (h3 : off 3 + (x 3).val = l.val) :
    (Rect.unit (s := S4x16x16x128) off sz inb).emb x = ix4 k b h l := by
  funext a
  match a with
  | 0 => exact Fin.ext (by rw [Rect.emb_apply]; show off 0 + 1 * (x 0).val = _; rw [Nat.one_mul]; exact h0)
  | 1 => exact Fin.ext (by rw [Rect.emb_apply]; show off 1 + 1 * (x 1).val = _; rw [Nat.one_mul]; exact h1)
  | 2 => exact Fin.ext (by rw [Rect.emb_apply]; show off 2 + 1 * (x 2).val = _; rw [Nat.one_mul]; exact h2)
  | 3 => exact Fin.ext (by rw [Rect.emb_apply]; show off 3 + 1 * (x 3).val = _; rw [Nat.one_mul]; exact h3)

theorem wp_peekO {c : Dev nD} {α : Type} {Q : α → sProp 𝕄} {k : Fin 4} {O : FVec F S256x64 .f32} {M L : FVec F S256x1 .f32}
    {hl : commM.view.LoadsAt (gO k).toLoadRect} {kk : (S1x16x16x64.Idx → Elt F .f32) → Prog (TpuEff nD τ sig (Elt F) Λ₀ .tc) α} :
    (SlotF c k O M L : sProp 𝕄) ⊢ iprop((SlotF c k O M L -∗ wp frame (wpE (defs₀ (F := F)) 𝒱₀ (c : Thread nD τ) none) Set.univ (kk (getO O)) Q)
      -∗ wp frame (wpE (defs₀ (F := F)) 𝒱₀ (c : Thread nD τ) none) Set.univ (.op (.load commM (gO k).toLoadRect hl) kk) Q) := by
  refine wp_peek (r := gO k) (w := getO O) (fun i hi => ?_) (fun f hf x => ?_)
  · have h0 : k.val ≤ (i 0).val ∧ (i 0).val < k.val + 1 := (Rect.mem_set_unit.mp hi) 0
    exact Fin.ext (by omega)
  · have x0 : (x 0).val < 1 := (x 0).isLt
    have x3 : (x 3).val < 64 := (x 3).isLt
    rw [show (gO k).emb x = ix4 k (x 1) (x 2) (⟨(x 3).val, by have h3 : (x 3).val < 64 := (x 3).isLt; omega⟩ : Fin 128) from emb_at x k (x 1) (x 2) _
      (show k.val + (x 0).val = k.val by omega) (Nat.zero_add _) (Nat.zero_add _) (show 0 + (x 3).val = _ by first | exact Nat.zero_add _ | (show 0 + (x 3).val = 0; omega))]
    refine (hf (x 1) (x 2) _ (show (x 3).val < 66 by omega)).trans ?_
    unfold tabs; rw [dif_pos (show (x 3).val < 64 from x3)]; rfl

theorem wp_peekM {c : Dev nD} {α : Type} {Q : α → sProp 𝕄} {k : Fin 4} {O : FVec F S256x64 .f32} {M L : FVec F S256x1 .f32}
    {hl : commM.view.LoadsAt (gM k).toLoadRect} {kk : (S1x16x16x1.Idx → Elt F .f32) → Prog (TpuEff nD τ sig (Elt F) Λ₀ .tc) α} :
    (SlotF c k O M L : sProp 𝕄) ⊢ iprop((SlotF c k O M L -∗ wp frame (wpE (defs₀ (F := F)) 𝒱₀ (c : Thread nD τ) none) Set.univ (kk (get1 M)) Q)
      -∗ wp frame (wpE (defs₀ (F := F)) 𝒱₀ (c : Thread nD τ) none) Set.univ (.op (.load commM (gM k).toLoadRect hl) kk) Q) := by
  refine wp_peek (r := gM k) (w := get1 M) (fun i hi => ?_) (fun f hf x => ?_)
  · have h0 : k.val ≤ (i 0).val ∧ (i 0).val < k.val + 1 := (Rect.mem_set_unit.mp hi) 0
    exact Fin.ext (by omega)
  · have x0 : (x 0).val < 1 := (x 0).isLt
    have x3 : (x 3).val < 1 := (x 3).isLt
    rw [show (gM k).emb x = ix4 k (x 1) (x 2) (⟨64, by omega⟩ : Fin 128) from emb_at x k (x 1) (x 2) _
      (show k.val + (x 0).val = k.val by omega) (Nat.zero_add _) (Nat.zero_add _) (show 64 + (x 3).val = _ by first | exact Nat.zero_add _ | (show 64 + (x 3).val = 64; omega))]
    refine (hf (x 1) (x 2) _ (show 64 < 66 by omega)).trans ?_
    unfold tabs; rw [dif_neg (show ¬ (64 < 64) by omega), if_pos rfl]; rfl

theorem wp_peekL {c : Dev nD} {α : Type} {Q : α → sProp 𝕄} {k : Fin 4} {O : FVec F S256x64 .f32} {M L : FVec F S256x1 .f32}
    {hl : commM.view.LoadsAt (gL k).toLoadRect} {kk : (S1x16x16x1.Idx → Elt F .f32) → Prog (TpuEff nD τ sig (Elt F) Λ₀ .tc) α} :
    (SlotF c k O M L : sProp 𝕄) ⊢ iprop((SlotF c k O M L -∗ wp frame (wpE (defs₀ (F := F)) 𝒱₀ (c : Thread nD τ) none) Set.univ (kk (get1 L)) Q)
      -∗ wp frame (wpE (defs₀ (F := F)) 𝒱₀ (c : Thread nD τ) none) Set.univ (.op (.load commM (gL k).toLoadRect hl) kk) Q) := by
  refine wp_peek (r := gL k) (w := get1 L) (fun i hi => ?_) (fun f hf x => ?_)
  · have h0 : k.val ≤ (i 0).val ∧ (i 0).val < k.val + 1 := (Rect.mem_set_unit.mp hi) 0
    exact Fin.ext (by omega)
  · have x0 : (x 0).val < 1 := (x 0).isLt
    have x3 : (x 3).val < 1 := (x 3).isLt
    rw [show (gL k).emb x = ix4 k (x 1) (x 2) (⟨65, by omega⟩ : Fin 128) from emb_at x k (x 1) (x 2) _
      (show k.val + (x 0).val = k.val by omega) (Nat.zero_add _) (Nat.zero_add _) (show 65 + (x 3).val = _ by first | exact Nat.zero_add _ | (show 65 + (x 3).val = 65; omega))]
    refine (hf (x 1) (x 2) _ (show 65 < 66 by omega)).trans ?_
    unfold tabs; rw [dif_neg (show ¬ (65 < 64) by omega), if_neg (show ¬ (65 = 64) by omega)]; rfl

/-! ## The result -/

/-- The four devices' tables combined. -/
def comb (c : Dev nD) : FVec F S16x1x16x64 .f32 :=
  k0_pay85 (k0_pay78 (get1 (tM (c + 2)))) (k0_pay79 (get1 (tM (c + 3)))) (k0_pay80 (get1 (tM c)) (get1 (tM (c + 1))) (get1 (tM (c + 2))) (get1 (tM (c + 3))))
    (k0_pay82 (get1 (tM c)) (get1 (tM (c + 1))) (get1 (tM (c + 2))) (get1 (tM (c + 3))) (getO (tO c))) (k0_pay83 (get1 (tM c)) (get1 (tM (c + 1))) (get1 (tM (c + 2))) (get1 (tM (c + 3))) (get1 (tL c))) (k0_pay84 (get1 (tM c)) (get1 (tM (c + 1))) (get1 (tM (c + 2))) (get1 (tM (c + 3))))
    (getO (tO (c + 1))) (get1 (tL (c + 1))) (getO (tO (c + 2))) (get1 (tL (c + 2))) (getO (tO (c + 3))) (get1 (tL (c + 3)))

end Cert.KernelIdeal.Talk

end
-- ==== Proof.IdealParts.lean ====
/-
  The program's parts around the filling of slot 0: the loads, the signals and the barrier, the sends, the waits, the combine.
-/
module

public import proofs.«01_k».proof.Proof.IdealComm
public import proofs.«01_k».proof.Proof.IdealTables

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable {A : Dev nD → (S16x16x128.Idx → Elt F .f32) → Prop}
variable (c : Dev nD) (κ : GSem nD τ sig → ℕ)

/-! ## Whole buffers read and written -/

theorem read_q (f : cc0_stg0_0.ty.Contents (Elt F)) :
    (Memref.whole cc0_stg0_0 : Memref sig .tc .vmem S16x1x16x64 .f32).view.readAt (Elt F)
      (Rect.unit (s := S16x1x16x64) ![0, 0, 0, 0] S16x1x16x64.size inb_S16x1x16x64_S16x1x16x64_0_0_0_0).toLoadRect f = f :=
  Memref.readAt_unit_zero (Elt F) cc0_stg0_0 (by funext a; match a with | 0 => rfl | 1 => rfl | 2 => rfl | 3 => rfl) _ f
theorem read_bt (f : cc0_stg1_0.ty.Contents (Elt F)) :
    (Memref.whole cc0_stg1_0 : Memref sig .tc .vmem S16x128 .i32).view.readAt (Elt F)
      (Rect.unit (s := S16x128) ![0, 0] S16x128.size inb_S16x128_S16x128_0_0).toLoadRect f = f :=
  Memref.readAt_unit_zero (Elt F) cc0_stg1_0 (by funext a; match a with | 0 => rfl | 1 => rfl) _ f
theorem read_ln (f : cc0_stg2_0.ty.Contents (Elt F)) :
    (Memref.whole cc0_stg2_0 : Memref sig .tc .vmem S16x1 .i32).view.readAt (Elt F)
      (Rect.unit (s := S16x1) ![0, 0] S16x1.size inb_S16x1_S16x1_0_0).toLoadRect f = f :=
  Memref.readAt_unit_zero (Elt F) cc0_stg2_0 (by funext a; match a with | 0 => rfl | 1 => rfl) _ f
theorem read_k (f : cc0_scratch0.ty.Contents (Elt F)) :
    kM.view.readAt (Elt F) (Rect.unit (s := S16x16x64x128) ![0, 0, 0, 0] S16x16x64x128.size inb_S16x16x64x128_S16x16x64x128_0_0_0_0).toLoadRect f = f :=
  Memref.readAt_unit_zero (Elt F) cc0_scratch0 (by funext a; match a with | 0 => rfl | 1 => rfl | 2 => rfl | 3 => rfl) _ f
theorem read_v (f : cc0_scratch1.ty.Contents (Elt F)) :
    vM.view.readAt (Elt F) (Rect.unit (s := S16x16x64x128) ![0, 0, 0, 0] S16x16x64x128.size inb_S16x16x64x128_S16x16x64x128_0_0_0_0).toLoadRect f = f :=
  Memref.readAt_unit_zero (Elt F) cc0_scratch1 (by funext a; match a with | 0 => rfl | 1 => rfl | 2 => rfl | 3 => rfl) _ f
theorem write_o (f w : cc0_stg3_0.ty.Contents (Elt F)) :
    ((Memref.whole cc0_stg3_0 : Memref sig .tc .vmem S16x1x16x64 .f32).access
      (Rect.unit (s := S16x1x16x64) ![0, 0, 0, 0] S16x1x16x64.size inb_S16x1x16x64_S16x1x16x64_0_0_0_0)).write (Elt F) f w Finset.univ = w :=
  Memref.write_access_unit_zero_univ (Elt F) cc0_stg3_0 (by funext a; match a with | 0 => rfl | 1 => rfl | 2 => rfl | 3 => rfl) _ f w

set_option maxHeartbeats 1600000 in
theorem wp_part1 (bt : IVec S16x128 32) (ln : IVec S16x1 32) (Kt : ((Σ' (d4 : Dev nD) (v6 : BitVec 32) (v20 : BitVec 32) (v23 : IVec S16x128x1 32) (v24 : IVec S16x128x128 32) (v25 : IVec S16x128x128 32), Vec F S16x1 .i32)) → sProp 𝕄) :
    iprop((records m A κ ∗ levAts L lv ∗ pt c main_v1 (V m c main_v1) ∗ pt c main_v2 (V m c main_v2) ∗ (∃ f, pt c cc0_scratch0 f) ∗ (∃ f, pt c cc0_scratch1 f)
        ∗ dutyTok ER (cellL c 0) 0 0 ∗ reached ER (cellL c 0) 0 ∗ dutyTok ER (cellL c 1) 0 0 ∗ reached ER (cellL c 1) 0
        ∗ dutyTok ER (cellB (c + 1)) 0 1 ∗ (∃ f, slotPt c 1 fullShare f) ∗ reached ER (cellR c 1) 0
        ∗ dutyTok ER (cellB (c + 2)) 0 2 ∗ (∃ f, slotPt c 2 fullShare f) ∗ reached ER (cellR c 2) 0
        ∗ dutyTok ER (cellB (c + 3)) 0 3 ∗ (∃ f, slotPt c 3 fullShare f) ∗ reached ER (cellR c 3) 0
        ∗ cred (tallyAt (cellB c) () 3) ∗ Ow c (O₀ c) ∗ atPos ER (cellB c) 0 ∅ 0
        ∗ pt c cc0_stg1_0 bt ∗ pt c cc0_stg2_0 ln)
        ∗ ((cred (tallyAt (cellL c 0) () NL) ∗ cred (tallyAt (cellL c 1) () NL) ∗ Ow c (OR c) ∗ atPos ER (cellB c) (0 + 1) ∅ 0
        ∗ barPay c 1 ∗ barPay c 2 ∗ barPay c 3 ∗ pt c cc0_stg1_0 bt ∗ pt c cc0_stg2_0 ln) -∗ Kt ⟨c, myOf c, Scalar.muli (myOf c) 128#32, k0_pay1 (F := F) bt, poolIota, slotIota, ln⟩))
      ⊢ wp frame (wpE (defs₀ (F := F)) 𝒱₀ (c : Thread nD τ) none) Set.univ
          (k0_part1 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) Kt := by
  rw [k0_part1_eq_skeleton]
  unfold k0_part1_skel
  simp only [semSignalWord, semWaitWord, Prog.lift, Prog.bind_op, Prog.bind_ret, Prog.pure_eq_ret, wp_deviceId, dev1_eq c, dev2_eq c, dev3_eq c]
  iintro ⟨⟨#HR, #Hlev, Hv1, Hv2, ⟨%f0, Hs0⟩, ⟨%f1, Hs1⟩, Ht0, Hr0, Ht1, Hr1, Hb1, Hc1, Hq1, Hb2, Hc2, Hq2, Hb3, Hc3, Hq3, HcB, HO, HaB, Hbt, Hln⟩, Hk⟩
  iapply (wp_load_k m c κ f0) $$ [Hv1 Hs0 Ht0 Hr0]
  · isplitr; · iexact HR
    isplitl [Hv1]; · iexact Hv1
    isplitl [Hs0]; · iexact Hs0
    isplitl [Ht0]; · iexact Ht0
    iexact Hr0
  iintro HcL0
  iapply (wp_load_v m c κ f1) $$ [Hv2 Hs1 Ht1 Hr1]
  · isplitr; · iexact HR
    isplitl [Hv2]; · iexact Hv2
    isplitl [Hs1]; · iexact Hs1
    isplitl [Ht1]; · iexact Ht1
    iexact Hr1
  iintro HcL1
  simp only [wp_deviceId, dev1_eq c, dev2_eq c, dev3_eq c]
  iapply (wp_tell m c κ 1 (by decide) (OR c + aB c 3 + aB c 2)) $$ [HO Hb1 Hc1 Hq1]
  · isplitr; · iexact HR
    isplitl [HO]; · iexact HO
    isplitl [Hb1]; · iexact Hb1
    isplitl [Hc1]; · iexact Hc1
    iexact Hq1
  iintro HO
  iapply (wp_tell m c κ 2 (by decide) (OR c + aB c 3)) $$ [HO Hb2 Hc2 Hq2]
  · isplitr; · iexact HR
    isplitl [HO]; · iexact HO
    isplitl [Hb2]; · iexact Hb2
    isplitl [Hc2]; · iexact Hc2
    iexact Hq2
  iintro HO
  iapply (wp_tell m c κ 3 (by decide) (OR c)) $$ [HO Hb3 Hc3 Hq3]
  · isplitr; · iexact HR
    isplitl [HO]; · iexact HO
    isplitl [Hb3]; · iexact Hb3
    isplitl [Hc3]; · iexact Hc3
    iexact Hq3
  iintro HO
  iapply (wp_meet m c κ) $$ [HcB HO HaB]
  · isplitr; · iexact HR
    isplitl [HcB]; · iexact HcB
    isplitl [HO]; · iexact HO
    isplitr; · iexact Hlev
    iexact HaB
  iintro ⟨HO, HaB, Hp1, Hp2, Hp3⟩
  iapply (wp_load 𝒱₀ (c : Thread nD τ) none Set.univ (m := Memref.whole cc0_stg1_0) (Finset.subset_univ _)) $$ Hbt; iintro Hbt
  rw [read_bt]
  iapply (wp_load 𝒱₀ (c : Thread nD τ) none Set.univ (m := Memref.whole cc0_stg2_0) (Finset.subset_univ _)) $$ Hln; iintro Hln
  rw [read_ln, wp_ret]; imodintro
  iapply Hk
  isplitl [HcL0]; · iexact HcL0
  isplitl [HcL1]; · iexact HcL1
  isplitl [HO]; · iexact HO
  isplitl [HaB]; · iexact HaB
  isplitl [Hp1]; · iexact Hp1
  isplitl [Hp2]; · iexact Hp2
  isplitl [Hp3]; · iexact Hp3
  isplitl [Hbt]; · iexact Hbt
  iexact Hln

set_option maxHeartbeats 1600000 in
theorem wp_part2 (v20 : BitVec 32) (v23 : IVec S16x128x1 32) (v24 v25 : IVec S16x128x128 32) (v26 : IVec S16x1 32) (q : FVec F S16x1x16x64 .f32) (Kt : ((Σ' (v65 : FVec F S16x2048 .f32) (v68 : FVec F S16x1024 .f32) (v69 : IVec S16x16x1024 32) (c64_i32 : BitVec 32), IVec S16x16x1024 32)) → sProp 𝕄) :
    iprop((pt c cc0_stg0_0 q)
        ∗ ((pt c cc0_stg0_0 q) -∗ Kt ⟨k0_pay2 (F := F) v20 v23 v24 v25 v26, k0_pay3 q, laneIota, 64#32, k0_pay4⟩))
      ⊢ wp frame (wpE (defs₀ (F := F)) 𝒱₀ (c : Thread nD τ) none) Set.univ
          (k0_part2 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v20 v23 v24 v25 v26) Kt := by
  rw [k0_part2_eq_skeleton]
  unfold k0_part2_skel
  simp only [Prog.lift, Prog.bind_op, Prog.bind_ret, Prog.pure_eq_ret]
  iintro ⟨Hq, Hk⟩
  iapply (wp_load 𝒱₀ (c : Thread nD τ) none Set.univ (m := Memref.whole cc0_stg0_0) (Finset.subset_univ _)) $$ Hq; iintro Hq
  rw [read_q, wp_ret]; imodintro
  iapply Hk; iexact Hq

theorem ldPay_k : (ldPay m c 0 : sProp 𝕄) = iprop(pt c cc0_scratch0 (V m c main_v1) ∗ pt c main_v1 (V m c main_v1)) := by
  unfold ldPay; exact if_pos rfl
theorem ldPay_v : (ldPay m c 1 : sProp 𝕄) = iprop(pt c cc0_scratch1 (V m c main_v2) ∗ pt c main_v2 (V m c main_v2)) := by
  unfold ldPay; exact if_neg (by decide)

set_option maxHeartbeats 1600000 in
theorem wp_part3 (v68 : FVec F S16x1024 .f32) (v69 : IVec S16x16x1024 32) (w : BitVec 32) (v71 : IVec S16x16x1024 32) (Kt : ((Σ' (v95 : IVec S16x16x1024 1) (v102 : FVec F S256x1024 .bf16) (v107 : FVec F S16x1024x128 .bf16) (v110 : FVec F S256x128 .f32) (v113 : FVec F S256x128 .f32) (v115 : FVec F S1024x128 .bf16), FVec F S256x128 .f32)) → sProp 𝕄) :
    iprop((records m A κ ∗ levAts L lv ∗ cred (tallyAt (cellL c 0) () NL) ∗ Ow c (OR c) ∗ atPos ER (cellL c 0) 0 ∅ 0)
        ∗ ((Ow c (OR c) ∗ atPos ER (cellL c 0) (0 + 1) ∅ 0 ∗ pt c cc0_scratch0 (V m c main_v1) ∗ pt c main_v1 (V m c main_v1)) -∗ Kt ⟨k0_pay5 v69 w v71, k0_pay6 v68 v69 w v71, k0_pay7 (V m c main_v1), k0_pay8 v68 v69 w v71 (V m c main_v1), k0_pay9 v68 v69 w v71 (V m c main_v1), k0_pay10 (V m c main_v1), constant S256x128 .f32 0x00000000#32⟩))
      ⊢ wp frame (wpE (defs₀ (F := F)) 𝒱₀ (c : Thread nD τ) none) Set.univ
          (k0_part3 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v68 v69 w v71) Kt := by
  rw [k0_part3_eq_skeleton]
  unfold k0_part3_skel
  simp only [Prog.lift, Prog.bind_op, Prog.bind_ret, Prog.pure_eq_ret]
  iintro ⟨⟨#HR, #Hlev, Hc, HO, Ha⟩, Hk⟩
  iapply (wp_fetched m c κ 0 (src := Memref.whole main_v1) (dst := kM) rfl) $$ [Hc HO Ha]
  · isplitr; · iexact HR
    isplitl [Hc]; · iexact Hc
    isplitl [HO]; · iexact HO
    isplitr; · iexact Hlev
    iexact Ha
  iintro ⟨HO, Ha, Hp⟩
  ihave Hp' := (Entails.of_eq (ldPay_k m c)) $$ Hp
  icases Hp' with ⟨Hs, Hm⟩
  iapply (wp_load 𝒱₀ (c : Thread nD τ) none Set.univ (m := kM) (Finset.subset_univ _)) $$ Hs; iintro Hs
  rw [read_k, wp_ret]; imodintro
  iapply Hk
  isplitl [HO]; · iexact HO
  isplitl [Ha]; · iexact Ha
  isplitl [Hs]; · iexact Hs
  iexact Hm

set_option maxHeartbeats 1600000 in
theorem wp_part4 (v65 : FVec F S16x2048 .f32) (v102 : FVec F S256x1024 .bf16) (v107 : FVec F S16x1024x128 .bf16) (v110 v113 : FVec F S256x128 .f32) (v115 : FVec F S1024x128 .bf16) (z : FVec F S256x128 .f32) (Kt : ((Σ' (v158 : FVec F S256x2048 .f32), FVec F S16x16x2048 .f32)) → sProp 𝕄) :
    iprop((emp)
        ∗ ((emp) -∗ Kt ⟨k0_pay11 v102 v107 v110 v113 v115 z, k0_pay12 v65⟩))
      ⊢ wp frame (wpE (defs₀ (F := F)) 𝒱₀ (c : Thread nD τ) none) Set.univ
          (k0_part4 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v65 v102 v107 v110 v113 v115 z) Kt := by
  rw [k0_part4_eq_skeleton]
  unfold k0_part4_skel
  simp only [Prog.lift, Prog.bind_op, Prog.bind_ret, Prog.pure_eq_ret]
  iintro ⟨-, Hk⟩
  rw [wp_ret]; imodintro
  iapply Hk; iempintro

set_option maxHeartbeats 1600000 in
theorem wp_part5 (v158 : FVec F S256x2048 .f32) (v161 : FVec F S16x16x2048 .f32) (Kt : ((Σ' (v165 : FVec F S256x1 .f32) (v170 : FVec F S256x1 .f32) (v171 : FVec F S256x2048 .bf16) (v176 : FVec F S16x1024x128 .bf16) (v202 : FVec F S256x1024 .f32), FVec F S256x1024 .f32)) → sProp 𝕄) :
    iprop((records m A κ ∗ levAts L lv ∗ cred (tallyAt (cellL c 1) () NL) ∗ Ow c (OR c) ∗ atPos ER (cellL c 1) 0 ∅ 0)
        ∗ ((Ow c (OR c) ∗ atPos ER (cellL c 1) (0 + 1) ∅ 0 ∗ pt c cc0_scratch1 (V m c main_v2) ∗ pt c main_v2 (V m c main_v2)) -∗ Kt ⟨k0_pay14 v158 v161, k0_pay16 v158 v161, k0_pay17 v158 v161, k0_pay18 (V m c main_v2), k0_pay19 v158 v161 (V m c main_v2), k0_pay20 v158 v161 (V m c main_v2)⟩))
      ⊢ wp frame (wpE (defs₀ (F := F)) 𝒱₀ (c : Thread nD τ) none) Set.univ
          (k0_part5 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v158 v161) Kt := by
  rw [k0_part5_eq_skeleton]
  unfold k0_part5_skel
  simp only [Prog.lift, Prog.bind_op, Prog.bind_ret, Prog.pure_eq_ret]
  iintro ⟨⟨#HR, #Hlev, Hc, HO, Ha⟩, Hk⟩
  iapply (wp_fetched m c κ 1 (src := Memref.whole main_v2) (dst := vM) rfl) $$ [Hc HO Ha]
  · isplitr; · iexact HR
    isplitl [Hc]; · iexact Hc
    isplitl [HO]; · iexact HO
    isplitr; · iexact Hlev
    iexact Ha
  iintro ⟨HO, Ha, Hp⟩
  ihave Hp' := (Entails.of_eq (ldPay_v m c)) $$ Hp
  icases Hp' with ⟨Hs, Hm⟩
  iapply (wp_load 𝒱₀ (c : Thread nD τ) none Set.univ (m := vM) (Finset.subset_univ _)) $$ Hs; iintro Hs
  rw [read_v, wp_ret]; imodintro
  iapply Hk
  isplitl [HO]; · iexact HO
  isplitl [Ha]; · iexact Ha
  isplitl [Hs]; · iexact Hs
  iexact Hm

set_option maxHeartbeats 1600000 in
theorem wp_part6 (v171 : FVec F S256x2048 .bf16) (v176 : FVec F S16x1024x128 .bf16) (v202 v206 : FVec F S256x1024 .f32) (Kt : ((Σ' (v252 : FVec F S256x1024 .f32), FVec F S256x1024 .f32)) → sProp 𝕄) :
    iprop((emp)
        ∗ ((emp) -∗ Kt ⟨k0_pay21 v171 v176 v202 v206, k0_pay22 v171 v176⟩))
      ⊢ wp frame (wpE (defs₀ (F := F)) 𝒱₀ (c : Thread nD τ) none) Set.univ
          (k0_part6 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v171 v176 v202 v206) Kt := by
  rw [k0_part6_eq_skeleton]
  unfold k0_part6_skel
  simp only [Prog.lift, Prog.bind_op, Prog.bind_ret, Prog.pure_eq_ret]
  iintro ⟨-, Hk⟩
  rw [wp_ret]; imodintro
  iapply Hk; iempintro

set_option maxHeartbeats 1600000 in
theorem wp_part15 (v6 : BitVec 32) (f : Comm (F := F) c) (hf : A c ((slotM 0).view.read (Elt F) f)) (Kt : ((Σ' (v489 : BitVec 32), BitVec 32)) → sProp 𝕄) :
    iprop((records m A κ ∗ Ow c (OR c)
        ∗ slotPt c 0 (shr 3) f ∗ barPay c 3 ∗ dutyTok ER (cellS c 3) 0 0 ∗ reached ER (cellS c 3) 0 ∗ dutyTok ER (cellR (c - 3) 3) 0 0
        ∗ slotPt c 0 (shr 2) f ∗ barPay c 2 ∗ dutyTok ER (cellS c 2) 0 0 ∗ reached ER (cellS c 2) 0 ∗ dutyTok ER (cellR (c - 2) 2) 0 0)
        ∗ ((cred (tallyAt (cellS c 3) () N) ∗ cred (tallyAt (cellS c 2) () N) ∗ Ow c (aR c 1)) -∗ Kt ⟨Scalar.remsi (Scalar.addi v6 2#32) 4#32, Scalar.remsi (Scalar.addi v6 3#32) 4#32⟩))
      ⊢ wp frame (wpE (defs₀ (F := F)) 𝒱₀ (c : Thread nD τ) none) Set.univ
          (k0_part15 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v6) Kt := by
  rw [k0_part15_eq_skeleton]
  unfold k0_part15_skel
  simp only [Prog.lift, Prog.bind_op, Prog.bind_ret, Prog.pure_eq_ret]
  iintro ⟨⟨#HR, HO, Hs3, Hp3, Ht3, Hr3, Hu3, Hs2, Hp2, Ht2, Hr2, Hu2⟩, Hk⟩
  iapply (wp_send_slot m c κ (k := 3) (by decide) _ (dev4_eq c) (aR c 1 + aR c 2) f hf) $$ [Hs3 Hp3 HO Ht3 Hr3 Hu3]
  · isplitr; · iexact HR
    isplitl [Hs3]; · iexact Hs3
    isplitl [Hp3]; · iexact Hp3
    isplitl [HO]; · iexact HO
    isplitl [Ht3]; · iexact Ht3
    isplitl [Hr3]; · iexact Hr3
    iexact Hu3
  iintro ⟨Hc3, HO⟩
  iapply (wp_send_slot m c κ (k := 2) (by decide) _ (dev5_eq c) (aR c 1) f hf) $$ [Hs2 Hp2 HO Ht2 Hr2 Hu2]
  · isplitr; · iexact HR
    isplitl [Hs2]; · iexact Hs2
    isplitl [Hp2]; · iexact Hp2
    isplitl [HO]; · iexact HO
    isplitl [Ht2]; · iexact Ht2
    isplitl [Hr2]; · iexact Hr2
    iexact Hu2
  iintro ⟨Hc2, HO⟩
  rw [wp_ret]; imodintro
  iapply Hk
  isplitl [Hc3]; · iexact Hc3
  isplitl [Hc2]; · iexact Hc2
  iexact HO

set_option maxHeartbeats 1600000 in
theorem wp_part16 (v477 : BitVec 32) (f : Comm (F := F) c) (hf : A c ((slotM 0).view.read (Elt F) f)) (Kt : ((PUnit)) → sProp 𝕄) :
    iprop((records m A κ ∗ Ow c (aR c 1)
        ∗ slotPt c 0 (shr 1) f ∗ barPay c 1 ∗ dutyTok ER (cellS c 1) 0 0 ∗ reached ER (cellS c 1) 0 ∗ dutyTok ER (cellR (c - 1) 1) 0 0
        ∗ cred (tallyAt (cellS c 3) () N) ∗ atPos ER (cellS c 3) 0 ∅ 0 ∗ cred (tallyAt (cellR c 3) () N) ∗ atPos ER (cellR c 3) 0 ∅ 0)
        ∗ ((cred (tallyAt (cellS c 1) () N) ∗ Ow c 0 ∗ atPos ER (cellS c 3) (0 + 1) ∅ 0 ∗ sndPay A c 3 ∗ atPos ER (cellR c 3) (0 + 1) ∅ 0 ∗ rcvPay A c 3) -∗ Kt ⟨⟩))
      ⊢ wp frame (wpE (defs₀ (F := F)) 𝒱₀ (c : Thread nD τ) none) Set.univ
          (k0_part16 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v477) Kt := by
  rw [k0_part16_eq_skeleton]
  unfold k0_part16_skel
  simp only [Prog.lift, Prog.bind_op, Prog.bind_ret, Prog.pure_eq_ret]
  iintro ⟨⟨#HR, HO, Hs1, Hp1, Ht1, Hr1, Hu1, HcS3, HaS3, HcR3, HaR3⟩, Hk⟩
  rw [← zero_add (aR c 1)]
  iapply (wp_send_slot m c κ (k := 1) (by decide) _ (dev6_eq c) 0 f hf) $$ [Hs1 Hp1 HO Ht1 Hr1 Hu1]
  · isplitr; · iexact HR
    isplitl [Hs1]; · iexact Hs1
    isplitl [Hp1]; · iexact Hp1
    isplitl [HO]; · iexact HO
    isplitl [Ht1]; · iexact Ht1
    isplitl [Hr1]; · iexact Hr1
    iexact Hu1
  iintro ⟨Hc1, HO⟩
  iapply (wp_sent m c κ (k := 3) (by decide) (src := slotM 3) (dst := slotM 0) rfl) $$ [HcS3 HO HaS3]
  · isplitr; · iexact HR
    isplitl [HcS3]; · iexact HcS3
    isplitl [HO]; · iexact HO
    iexact HaS3
  iintro ⟨HO, HaS3, HyS3⟩
  iapply (wp_landed m c κ (k := 3) (by decide) (src := slotM 0) (dst := slotM 3) rfl) $$ [HcR3 HO HaR3]
  · isplitr; · iexact HR
    isplitl [HcR3]; · iexact HcR3
    isplitl [HO]; · iexact HO
    iexact HaR3
  iintro ⟨HO, HaR3, HyR3⟩
  rw [wp_ret]; imodintro
  iapply Hk
  isplitl [Hc1]; · iexact Hc1
  isplitl [HO]; · iexact HO
  isplitl [HaS3]; · iexact HaS3
  isplitl [HyS3]; · iexact HyS3
  isplitl [HaR3]; · iexact HaR3
  iexact HyR3

set_option maxHeartbeats 1600000 in
theorem wp_part17 (v489 v501 : BitVec 32) (Kt : ((PUnit)) → sProp 𝕄) :
    iprop((records m A κ ∗ Ow c 0 ∗ cred (tallyAt (cellS c 2) () N) ∗ atPos ER (cellS c 2) 0 ∅ 0 ∗ cred (tallyAt (cellR c 2) () N) ∗ atPos ER (cellR c 2) 0 ∅ 0
        ∗ cred (tallyAt (cellS c 1) () N) ∗ atPos ER (cellS c 1) 0 ∅ 0)
        ∗ ((Ow c 0 ∗ atPos ER (cellS c 2) (0 + 1) ∅ 0 ∗ sndPay A c 2 ∗ atPos ER (cellR c 2) (0 + 1) ∅ 0 ∗ rcvPay A c 2
        ∗ atPos ER (cellS c 1) (0 + 1) ∅ 0 ∗ sndPay A c 1) -∗ Kt ⟨⟩))
      ⊢ wp frame (wpE (defs₀ (F := F)) 𝒱₀ (c : Thread nD τ) none) Set.univ
          (k0_part17 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v489 v501) Kt := by
  rw [k0_part17_eq_skeleton]
  unfold k0_part17_skel
  simp only [Prog.lift, Prog.bind_op, Prog.bind_ret, Prog.pure_eq_ret]
  iintro ⟨⟨#HR, HO, HcS2, HaS2, HcR2, HaR2, HcS1, HaS1⟩, Hk⟩
  iapply (wp_sent m c κ (k := 2) (by decide) (src := slotM 2) (dst := slotM 0) rfl) $$ [HcS2 HO HaS2]
  · isplitr; · iexact HR
    isplitl [HcS2]; · iexact HcS2
    isplitl [HO]; · iexact HO
    iexact HaS2
  iintro ⟨HO, HaS2, HyS2⟩
  iapply (wp_landed m c κ (k := 2) (by decide) (src := slotM 0) (dst := slotM 2) rfl) $$ [HcR2 HO HaR2]
  · isplitr; · iexact HR
    isplitl [HcR2]; · iexact HcR2
    isplitl [HO]; · iexact HO
    iexact HaR2
  iintro ⟨HO, HaR2, HyR2⟩
  iapply (wp_sent m c κ (k := 1) (by decide) (src := slotM 1) (dst := slotM 0) rfl) $$ [HcS1 HO HaS1]
  · isplitr; · iexact HR
    isplitl [HcS1]; · iexact HcS1
    isplitl [HO]; · iexact HO
    iexact HaS1
  iintro ⟨HO, HaS1, HyS1⟩
  rw [wp_ret]; imodintro
  iapply Hk
  isplitl [HO]; · iexact HO
  isplitl [HaS2]; · iexact HaS2
  isplitl [HyS2]; · iexact HyS2
  isplitl [HaR2]; · iexact HaR2
  isplitl [HyR2]; · iexact HyR2
  isplitl [HaS1]; · iexact HaS1
  iexact HyS1

section Combine

variable (tO : Dev nD → FVec F S256x64 .f32) (tM tL : Dev nD → FVec F S256x1 .f32)

set_option maxHeartbeats 1600000 in
theorem wp_part18  (Kt : ((Σ' (v559 : FVec F S16x16x1 .f32) (v561 : FVec F S16x16x1 .f32) (v564 : FVec F S16x16x1 .f32) (v573 : FVec F S16x16x64 .f32) (v577 : FVec F S16x16x1 .f32), FVec F S16x16x1 .f32)) → sProp 𝕄) :
    iprop((records m (Agrees tO tM tL) κ ∗ Ow c 0 ∗ cred (tallyAt (cellR c 1) () N) ∗ atPos ER (cellR c 1) 0 ∅ 0
        ∗ SlotF c 0 (tO c) (tM c) (tL c) ∗ SlotF c 2 (tO (c + 2)) (tM (c + 2)) (tL (c + 2)) ∗ SlotF c 3 (tO (c + 3)) (tM (c + 3)) (tL (c + 3)))
        ∗ ((Ow c 0 ∗ atPos ER (cellR c 1) (0 + 1) ∅ 0 ∗ SlotF c 0 (tO c) (tM c) (tL c) ∗ SlotF c 1 (tO (c + 1)) (tM (c + 1)) (tL (c + 1)) ∗ SlotF c 2 (tO (c + 2)) (tM (c + 2)) (tL (c + 2)) ∗ SlotF c 3 (tO (c + 3)) (tM (c + 3)) (tL (c + 3))) -∗ Kt ⟨k0_pay78 (get1 (tM (c + 2))), k0_pay79 (get1 (tM (c + 3))), k0_pay80 (get1 (tM c)) (get1 (tM (c + 1))) (get1 (tM (c + 2))) (get1 (tM (c + 3))), k0_pay82 (get1 (tM c)) (get1 (tM (c + 1))) (get1 (tM (c + 2))) (get1 (tM (c + 3))) (getO (tO c)), k0_pay83 (get1 (tM c)) (get1 (tM (c + 1))) (get1 (tM (c + 2))) (get1 (tM (c + 3))) (get1 (tL c)), k0_pay84 (get1 (tM c)) (get1 (tM (c + 1))) (get1 (tM (c + 2))) (get1 (tM (c + 3)))⟩))
      ⊢ wp frame (wpE (defs₀ (F := F)) 𝒱₀ (c : Thread nD τ) none) Set.univ
          (k0_part18 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) Kt := by
  rw [k0_part18_eq_skeleton]
  unfold k0_part18_skel
  simp only [Prog.lift, Prog.bind_op, Prog.bind_ret, Prog.pure_eq_ret]
  iintro ⟨⟨#HR, HO, HcR1, HaR1, H0, H2, H3⟩, Hk⟩
  iapply (wp_landed m c κ (k := 1) (by decide) (src := slotM 0) (dst := slotM 1) rfl) $$ [HcR1 HO HaR1]
  · isplitr; · iexact HR
    isplitl [HcR1]; · iexact HcR1
    isplitl [HO]; · iexact HO
    iexact HaR1
  iintro ⟨HO, HaR1, HyR1⟩
  ihave H1 := (slotF_of_rcv tO tM tL c 1) $$ HyR1
  iapply (wp_peekM (k := 0)) $$ H0; iintro H0
  iapply (wp_peekM (k := 1)) $$ H1; iintro H1
  iapply (wp_peekM (k := 2)) $$ H2; iintro H2
  iapply (wp_peekM (k := 3)) $$ H3; iintro H3
  iapply (wp_peekO (k := 0)) $$ H0; iintro H0
  iapply (wp_peekL (k := 0)) $$ H0; iintro H0
  rw [wp_ret]; imodintro
  iapply Hk
  isplitl [HO]; · iexact HO
  isplitl [HaR1]; · iexact HaR1
  isplitl [H0]; · iexact H0
  isplitl [H1]; · iexact H1
  isplitl [H2]; · iexact H2
  iexact H3

set_option maxHeartbeats 1600000 in
theorem wp_part19 (v559 v561 v564 : FVec F S16x16x1 .f32) (v573 : FVec F S16x16x64 .f32) (v577 v579 : FVec F S16x16x1 .f32) (Kt : ((PUnit)) → sProp 𝕄) :
    iprop((SlotF c 1 (tO (c + 1)) (tM (c + 1)) (tL (c + 1)) ∗ SlotF c 2 (tO (c + 2)) (tM (c + 2)) (tL (c + 2)) ∗ SlotF c 3 (tO (c + 3)) (tM (c + 3)) (tL (c + 3)) ∗ (∃ f, pt c cc0_stg3_0 f))
        ∗ ((SlotF c 1 (tO (c + 1)) (tM (c + 1)) (tL (c + 1)) ∗ SlotF c 2 (tO (c + 2)) (tM (c + 2)) (tL (c + 2)) ∗ SlotF c 3 (tO (c + 3)) (tM (c + 3)) (tL (c + 3)) ∗ pt c cc0_stg3_0 (k0_pay85 v559 v561 v564 v573 v577 v579 (getO (tO (c + 1))) (get1 (tL (c + 1))) (getO (tO (c + 2))) (get1 (tL (c + 2))) (getO (tO (c + 3))) (get1 (tL (c + 3))))) -∗ Kt ⟨⟩))
      ⊢ wp frame (wpE (defs₀ (F := F)) 𝒱₀ (c : Thread nD τ) none) Set.univ
          (k0_part19 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v559 v561 v564 v573 v577 v579) Kt := by
  rw [k0_part19_eq_skeleton]
  unfold k0_part19_skel
  simp only [Prog.lift, Prog.bind_op, Prog.bind_ret, Prog.pure_eq_ret]
  iintro ⟨⟨H1, H2, H3, ⟨%f, Ho⟩⟩, Hk⟩
  iapply (wp_peekO (k := 1)) $$ H1; iintro H1
  iapply (wp_peekL (k := 1)) $$ H1; iintro H1
  iapply (wp_peekO (k := 2)) $$ H2; iintro H2
  iapply (wp_peekL (k := 2)) $$ H2; iintro H2
  iapply (wp_peekO (k := 3)) $$ H3; iintro H3
  iapply (wp_peekL (k := 3)) $$ H3; iintro H3
  iapply (wp_load 𝒱₀ (c : Thread nD τ) none Set.univ (m := Memref.whole cc0_stg3_0) (Finset.subset_univ _)) $$ Ho; iintro Ho
  iapply (wp_store 𝒱₀ (c : Thread nD τ) none Set.univ (m := Memref.whole cc0_stg3_0) (r := Rect.unit (s := S16x1x16x64) ![0, 0, 0, 0] S16x1x16x64.size inb_S16x1x16x64_S16x1x16x64_0_0_0_0) (Mk := Finset.univ) (Finset.subset_univ _)) $$ Ho; iintro Ho
  rw [write_o, wp_ret]; imodintro
  iapply Hk
  isplitl [H1]; · iexact H1
  isplitl [H2]; · iexact H2
  isplitl [H3]; · iexact H3
  iexact Ho

end Combine

end Cert.KernelIdeal.Talk

end
-- ==== Proof.IdealFill.lean ====
/-
  Slot 0 is filled: the eight program parts that store the three tables, head by head, one rule per store. Each part takes
  the slot with the pieces before it in place and leaves it with its own pieces in place as well.
-/
module

public import proofs.«01_k».proof.Proof.IdealSlots

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (a0 : Memref sig .tc .vmem S16x1x16x64 .f32) (h0 : a0.IsWhole) (a3 : Memref sig .tc .vmem S16x128 .i32) (h3 : a3.IsWhole)
  (a4 : Memref sig .tc .vmem S16x1 .i32) (h4 : a4.IsWhole) (a5 : Memref sig .tc .vmem S16x1x16x64 .f32) (h5 : a5.IsWhole)

variable (c : Dev nD)

set_option maxHeartbeats 1600000 in
theorem wp_part7 (v95 : IVec S16x16x1024 1) (v252 v256 : FVec F S256x1024 .f32) (M L : FVec F S256x1 .f32) (Kt : (Σ' (v283 : FVec F S256x64 .f32), FVec F S1x16x1x1 .f32) → sProp 𝕄) :
    iprop(Slot0 c (Done (k0_pay23 v95 v252 v256) M L 0) ∗ (Slot0 c (Done (k0_pay23 v95 v252 v256) M L 2) -∗ Kt ⟨k0_pay23 v95 v252 v256, k0_pay26 L⟩))
      ⊢ wp frame (wpE (defs₀ (F := F)) 𝒱₀ (c : Thread nD τ) none) Set.univ
          (k0_part7 a0 h0 (Memref.whole main_v1) (Memref.isWhole_whole _) (Memref.whole main_v2) (Memref.isWhole_whole _) a3 h3 a4 h4 a5 h5 (Memref.whole cc0_scratch0) (Memref.isWhole_whole _) (Memref.whole cc0_scratch1) (Memref.isWhole_whole _) (Memref.whole cc0_scratch2) (Memref.isWhole_whole _) cc0_scratch3 cc0_scratch4 cc0_scratch5 v95 M L v252 v256) Kt := by
  rw [k0_part7_eq_skeleton]
  unfold k0_part7_skel
  simp only [Prog.lift, Prog.bind_op, Prog.bind_ret, Prog.pure_eq_ret]
  iintro ⟨H, Hk⟩
  iapply (wp_skip (r := rO 0) (sub_O 0)) $$ H; iintro %_ H
  iapply (wp_put (r := rO 0) (w := (pieceO 0 (k0_pay23 v95 v252 v256))) (sub_O 0) (fun f hf => step_O (O := (k0_pay23 v95 v252 v256)) (M := M) (L := L) 0 hf)) $$ H; iintro H
  iapply (wp_skip (r := rM 0) (sub_M 0)) $$ H; iintro %_ H
  iapply (wp_put (r := rM 0) (w := (piece1 0 M)) (sub_M 0) (fun f hf => step_M (O := (k0_pay23 v95 v252 v256)) (M := M) (L := L) 0 hf)) $$ H; iintro H
  iapply (wp_skip (r := rL 0) (sub_L 0)) $$ H; iintro %_ H
  rw [wp_ret]; imodintro; iapply Hk; iexact H

set_option maxHeartbeats 1600000 in
theorem wp_part8 (O : FVec F S256x64 .f32) (M L : FVec F S256x1 .f32) (Kt : (FVec F S16x64 .f32) → sProp 𝕄) :
    iprop(Slot0 c (Done O M L 2) ∗ (Slot0 c (Done O M L 9) -∗ Kt (k0_pay33 O)))
      ⊢ wp frame (wpE (defs₀ (F := F)) 𝒱₀ (c : Thread nD τ) none) Set.univ
          (k0_part8 a0 h0 (Memref.whole main_v1) (Memref.isWhole_whole _) (Memref.whole main_v2) (Memref.isWhole_whole _) a3 h3 a4 h4 a5 h5 (Memref.whole cc0_scratch0) (Memref.isWhole_whole _) (Memref.whole cc0_scratch1) (Memref.isWhole_whole _) (Memref.whole cc0_scratch2) (Memref.isWhole_whole _) cc0_scratch3 cc0_scratch4 cc0_scratch5 M L O (k0_pay26 L)) Kt := by
  rw [k0_part8_eq_skeleton]
  unfold k0_part8_skel
  simp only [Prog.lift, Prog.bind_op, Prog.bind_ret, Prog.pure_eq_ret]
  iintro ⟨H, Hk⟩
  iapply (wp_put (r := rL 0) (w := (piece1 0 L)) (sub_L 0) (fun f hf => step_L (O := O) (M := M) (L := L) 0 hf)) $$ H; iintro H
  iapply (wp_skip (r := rO 1) (sub_O 1)) $$ H; iintro %_ H
  iapply (wp_put (r := rO 1) (w := (pieceO 1 O)) (sub_O 1) (fun f hf => step_O (O := O) (M := M) (L := L) 1 hf)) $$ H; iintro H
  iapply (wp_skip (r := rM 1) (sub_M 1)) $$ H; iintro %_ H
  iapply (wp_put (r := rM 1) (w := (piece1 1 M)) (sub_M 1) (fun f hf => step_M (O := O) (M := M) (L := L) 1 hf)) $$ H; iintro H
  iapply (wp_skip (r := rL 1) (sub_L 1)) $$ H; iintro %_ H
  iapply (wp_put (r := rL 1) (w := (piece1 1 L)) (sub_L 1) (fun f hf => step_L (O := O) (M := M) (L := L) 1 hf)) $$ H; iintro H
  iapply (wp_skip (r := rO 2) (sub_O 2)) $$ H; iintro %_ H
  iapply (wp_put (r := rO 2) (w := (pieceO 2 O)) (sub_O 2) (fun f hf => step_O (O := O) (M := M) (L := L) 2 hf)) $$ H; iintro H
  iapply (wp_skip (r := rM 2) (sub_M 2)) $$ H; iintro %_ H
  iapply (wp_put (r := rM 2) (w := (piece1 2 M)) (sub_M 2) (fun f hf => step_M (O := O) (M := M) (L := L) 2 hf)) $$ H; iintro H
  iapply (wp_skip (r := rL 2) (sub_L 2)) $$ H; iintro %_ H
  iapply (wp_put (r := rL 2) (w := (piece1 2 L)) (sub_L 2) (fun f hf => step_L (O := O) (M := M) (L := L) 2 hf)) $$ H; iintro H
  rw [wp_ret]; imodintro; iapply Hk; iexact H

set_option maxHeartbeats 1600000 in
theorem wp_part9 (O : FVec F S256x64 .f32) (M L : FVec F S256x1 .f32) (Kt : (FVec F S16x1 .f32) → sProp 𝕄) :
    iprop(Slot0 c (Done O M L 9) ∗ (Slot0 c (Done O M L 16) -∗ Kt (k0_pay41 M)))
      ⊢ wp frame (wpE (defs₀ (F := F)) 𝒱₀ (c : Thread nD τ) none) Set.univ
          (k0_part9 a0 h0 (Memref.whole main_v1) (Memref.isWhole_whole _) (Memref.whole main_v2) (Memref.isWhole_whole _) a3 h3 a4 h4 a5 h5 (Memref.whole cc0_scratch0) (Memref.isWhole_whole _) (Memref.whole cc0_scratch1) (Memref.isWhole_whole _) (Memref.whole cc0_scratch2) (Memref.isWhole_whole _) cc0_scratch3 cc0_scratch4 cc0_scratch5 M L O (k0_pay33 O)) Kt := by
  rw [k0_part9_eq_skeleton]
  unfold k0_part9_skel
  simp only [Prog.lift, Prog.bind_op, Prog.bind_ret, Prog.pure_eq_ret]
  iintro ⟨H, Hk⟩
  iapply (wp_skip (r := rO 3) (sub_O 3)) $$ H; iintro %_ H
  iapply (wp_put (r := rO 3) (w := (pieceO 3 O)) (sub_O 3) (fun f hf => step_O (O := O) (M := M) (L := L) 3 hf)) $$ H; iintro H
  iapply (wp_skip (r := rM 3) (sub_M 3)) $$ H; iintro %_ H
  iapply (wp_put (r := rM 3) (w := (piece1 3 M)) (sub_M 3) (fun f hf => step_M (O := O) (M := M) (L := L) 3 hf)) $$ H; iintro H
  iapply (wp_skip (r := rL 3) (sub_L 3)) $$ H; iintro %_ H
  iapply (wp_put (r := rL 3) (w := (piece1 3 L)) (sub_L 3) (fun f hf => step_L (O := O) (M := M) (L := L) 3 hf)) $$ H; iintro H
  iapply (wp_skip (r := rO 4) (sub_O 4)) $$ H; iintro %_ H
  iapply (wp_put (r := rO 4) (w := (pieceO 4 O)) (sub_O 4) (fun f hf => step_O (O := O) (M := M) (L := L) 4 hf)) $$ H; iintro H
  iapply (wp_skip (r := rM 4) (sub_M 4)) $$ H; iintro %_ H
  iapply (wp_put (r := rM 4) (w := (piece1 4 M)) (sub_M 4) (fun f hf => step_M (O := O) (M := M) (L := L) 4 hf)) $$ H; iintro H
  iapply (wp_skip (r := rL 4) (sub_L 4)) $$ H; iintro %_ H
  iapply (wp_put (r := rL 4) (w := (piece1 4 L)) (sub_L 4) (fun f hf => step_L (O := O) (M := M) (L := L) 4 hf)) $$ H; iintro H
  iapply (wp_skip (r := rO 5) (sub_O 5)) $$ H; iintro %_ H
  iapply (wp_put (r := rO 5) (w := (pieceO 5 O)) (sub_O 5) (fun f hf => step_O (O := O) (M := M) (L := L) 5 hf)) $$ H; iintro H
  rw [wp_ret]; imodintro; iapply Hk; iexact H

set_option maxHeartbeats 1600000 in
theorem wp_part10 (O : FVec F S256x64 .f32) (M L : FVec F S256x1 .f32) (Kt : (FVec F S1x16x1x1 .f32) → sProp 𝕄) :
    iprop(Slot0 c (Done O M L 16) ∗ (Slot0 c (Done O M L 22) -∗ Kt (k0_pay48 M)))
      ⊢ wp frame (wpE (defs₀ (F := F)) 𝒱₀ (c : Thread nD τ) none) Set.univ
          (k0_part10 a0 h0 (Memref.whole main_v1) (Memref.isWhole_whole _) (Memref.whole main_v2) (Memref.isWhole_whole _) a3 h3 a4 h4 a5 h5 (Memref.whole cc0_scratch0) (Memref.isWhole_whole _) (Memref.whole cc0_scratch1) (Memref.isWhole_whole _) (Memref.whole cc0_scratch2) (Memref.isWhole_whole _) cc0_scratch3 cc0_scratch4 cc0_scratch5 M L O (k0_pay41 M)) Kt := by
  rw [k0_part10_eq_skeleton]
  unfold k0_part10_skel
  simp only [Prog.lift, Prog.bind_op, Prog.bind_ret, Prog.pure_eq_ret]
  iintro ⟨H, Hk⟩
  iapply (wp_skip (r := rM 5) (sub_M 5)) $$ H; iintro %_ H
  iapply (wp_put (r := rM 5) (w := (piece1 5 M)) (sub_M 5) (fun f hf => step_M (O := O) (M := M) (L := L) 5 hf)) $$ H; iintro H
  iapply (wp_skip (r := rL 5) (sub_L 5)) $$ H; iintro %_ H
  iapply (wp_put (r := rL 5) (w := (piece1 5 L)) (sub_L 5) (fun f hf => step_L (O := O) (M := M) (L := L) 5 hf)) $$ H; iintro H
  iapply (wp_skip (r := rO 6) (sub_O 6)) $$ H; iintro %_ H
  iapply (wp_put (r := rO 6) (w := (pieceO 6 O)) (sub_O 6) (fun f hf => step_O (O := O) (M := M) (L := L) 6 hf)) $$ H; iintro H
  iapply (wp_skip (r := rM 6) (sub_M 6)) $$ H; iintro %_ H
  iapply (wp_put (r := rM 6) (w := (piece1 6 M)) (sub_M 6) (fun f hf => step_M (O := O) (M := M) (L := L) 6 hf)) $$ H; iintro H
  iapply (wp_skip (r := rL 6) (sub_L 6)) $$ H; iintro %_ H
  iapply (wp_put (r := rL 6) (w := (piece1 6 L)) (sub_L 6) (fun f hf => step_L (O := O) (M := M) (L := L) 6 hf)) $$ H; iintro H
  iapply (wp_skip (r := rO 7) (sub_O 7)) $$ H; iintro %_ H
  iapply (wp_put (r := rO 7) (w := (pieceO 7 O)) (sub_O 7) (fun f hf => step_O (O := O) (M := M) (L := L) 7 hf)) $$ H; iintro H
  iapply (wp_skip (r := rM 7) (sub_M 7)) $$ H; iintro %_ H
  rw [wp_ret]; imodintro; iapply Hk; iexact H

set_option maxHeartbeats 1600000 in
theorem wp_part11 (O : FVec F S256x64 .f32) (M L : FVec F S256x1 .f32) (Kt : (FVec F S16x1 .f32) → sProp 𝕄) :
    iprop(Slot0 c (Done O M L 22) ∗ (Slot0 c (Done O M L 29) -∗ Kt (k0_pay55 L)))
      ⊢ wp frame (wpE (defs₀ (F := F)) 𝒱₀ (c : Thread nD τ) none) Set.univ
          (k0_part11 a0 h0 (Memref.whole main_v1) (Memref.isWhole_whole _) (Memref.whole main_v2) (Memref.isWhole_whole _) a3 h3 a4 h4 a5 h5 (Memref.whole cc0_scratch0) (Memref.isWhole_whole _) (Memref.whole cc0_scratch1) (Memref.isWhole_whole _) (Memref.whole cc0_scratch2) (Memref.isWhole_whole _) cc0_scratch3 cc0_scratch4 cc0_scratch5 M L O (k0_pay48 M)) Kt := by
  rw [k0_part11_eq_skeleton]
  unfold k0_part11_skel
  simp only [Prog.lift, Prog.bind_op, Prog.bind_ret, Prog.pure_eq_ret]
  iintro ⟨H, Hk⟩
  iapply (wp_put (r := rM 7) (w := (piece1 7 M)) (sub_M 7) (fun f hf => step_M (O := O) (M := M) (L := L) 7 hf)) $$ H; iintro H
  iapply (wp_skip (r := rL 7) (sub_L 7)) $$ H; iintro %_ H
  iapply (wp_put (r := rL 7) (w := (piece1 7 L)) (sub_L 7) (fun f hf => step_L (O := O) (M := M) (L := L) 7 hf)) $$ H; iintro H
  iapply (wp_skip (r := rO 8) (sub_O 8)) $$ H; iintro %_ H
  iapply (wp_put (r := rO 8) (w := (pieceO 8 O)) (sub_O 8) (fun f hf => step_O (O := O) (M := M) (L := L) 8 hf)) $$ H; iintro H
  iapply (wp_skip (r := rM 8) (sub_M 8)) $$ H; iintro %_ H
  iapply (wp_put (r := rM 8) (w := (piece1 8 M)) (sub_M 8) (fun f hf => step_M (O := O) (M := M) (L := L) 8 hf)) $$ H; iintro H
  iapply (wp_skip (r := rL 8) (sub_L 8)) $$ H; iintro %_ H
  iapply (wp_put (r := rL 8) (w := (piece1 8 L)) (sub_L 8) (fun f hf => step_L (O := O) (M := M) (L := L) 8 hf)) $$ H; iintro H
  iapply (wp_skip (r := rO 9) (sub_O 9)) $$ H; iintro %_ H
  iapply (wp_put (r := rO 9) (w := (pieceO 9 O)) (sub_O 9) (fun f hf => step_O (O := O) (M := M) (L := L) 9 hf)) $$ H; iintro H
  iapply (wp_skip (r := rM 9) (sub_M 9)) $$ H; iintro %_ H
  iapply (wp_put (r := rM 9) (w := (piece1 9 M)) (sub_M 9) (fun f hf => step_M (O := O) (M := M) (L := L) 9 hf)) $$ H; iintro H
  rw [wp_ret]; imodintro; iapply Hk; iexact H

set_option maxHeartbeats 1600000 in
theorem wp_part12 (O : FVec F S256x64 .f32) (M L : FVec F S256x1 .f32) (Kt : (FVec F S16x64 .f32) → sProp 𝕄) :
    iprop(Slot0 c (Done O M L 29) ∗ (Slot0 c (Done O M L 36) -∗ Kt (k0_pay63 O)))
      ⊢ wp frame (wpE (defs₀ (F := F)) 𝒱₀ (c : Thread nD τ) none) Set.univ
          (k0_part12 a0 h0 (Memref.whole main_v1) (Memref.isWhole_whole _) (Memref.whole main_v2) (Memref.isWhole_whole _) a3 h3 a4 h4 a5 h5 (Memref.whole cc0_scratch0) (Memref.isWhole_whole _) (Memref.whole cc0_scratch1) (Memref.isWhole_whole _) (Memref.whole cc0_scratch2) (Memref.isWhole_whole _) cc0_scratch3 cc0_scratch4 cc0_scratch5 M L O (k0_pay55 L)) Kt := by
  rw [k0_part12_eq_skeleton]
  unfold k0_part12_skel
  simp only [Prog.lift, Prog.bind_op, Prog.bind_ret, Prog.pure_eq_ret]
  iintro ⟨H, Hk⟩
  iapply (wp_skip (r := rL 9) (sub_L 9)) $$ H; iintro %_ H
  iapply (wp_put (r := rL 9) (w := (piece1 9 L)) (sub_L 9) (fun f hf => step_L (O := O) (M := M) (L := L) 9 hf)) $$ H; iintro H
  iapply (wp_skip (r := rO 10) (sub_O 10)) $$ H; iintro %_ H
  iapply (wp_put (r := rO 10) (w := (pieceO 10 O)) (sub_O 10) (fun f hf => step_O (O := O) (M := M) (L := L) 10 hf)) $$ H; iintro H
  iapply (wp_skip (r := rM 10) (sub_M 10)) $$ H; iintro %_ H
  iapply (wp_put (r := rM 10) (w := (piece1 10 M)) (sub_M 10) (fun f hf => step_M (O := O) (M := M) (L := L) 10 hf)) $$ H; iintro H
  iapply (wp_skip (r := rL 10) (sub_L 10)) $$ H; iintro %_ H
  iapply (wp_put (r := rL 10) (w := (piece1 10 L)) (sub_L 10) (fun f hf => step_L (O := O) (M := M) (L := L) 10 hf)) $$ H; iintro H
  iapply (wp_skip (r := rO 11) (sub_O 11)) $$ H; iintro %_ H
  iapply (wp_put (r := rO 11) (w := (pieceO 11 O)) (sub_O 11) (fun f hf => step_O (O := O) (M := M) (L := L) 11 hf)) $$ H; iintro H
  iapply (wp_skip (r := rM 11) (sub_M 11)) $$ H; iintro %_ H
  iapply (wp_put (r := rM 11) (w := (piece1 11 M)) (sub_M 11) (fun f hf => step_M (O := O) (M := M) (L := L) 11 hf)) $$ H; iintro H
  iapply (wp_skip (r := rL 11) (sub_L 11)) $$ H; iintro %_ H
  iapply (wp_put (r := rL 11) (w := (piece1 11 L)) (sub_L 11) (fun f hf => step_L (O := O) (M := M) (L := L) 11 hf)) $$ H; iintro H
  rw [wp_ret]; imodintro; iapply Hk; iexact H

set_option maxHeartbeats 1600000 in
theorem wp_part13 (O : FVec F S256x64 .f32) (M L : FVec F S256x1 .f32) (Kt : (FVec F S1x16x1x64 .f32) → sProp 𝕄) :
    iprop(Slot0 c (Done O M L 36) ∗ (Slot0 c (Done O M L 42) -∗ Kt (k0_pay70 O)))
      ⊢ wp frame (wpE (defs₀ (F := F)) 𝒱₀ (c : Thread nD τ) none) Set.univ
          (k0_part13 a0 h0 (Memref.whole main_v1) (Memref.isWhole_whole _) (Memref.whole main_v2) (Memref.isWhole_whole _) a3 h3 a4 h4 a5 h5 (Memref.whole cc0_scratch0) (Memref.isWhole_whole _) (Memref.whole cc0_scratch1) (Memref.isWhole_whole _) (Memref.whole cc0_scratch2) (Memref.isWhole_whole _) cc0_scratch3 cc0_scratch4 cc0_scratch5 M L O (k0_pay63 O)) Kt := by
  rw [k0_part13_eq_skeleton]
  unfold k0_part13_skel
  simp only [Prog.lift, Prog.bind_op, Prog.bind_ret, Prog.pure_eq_ret]
  iintro ⟨H, Hk⟩
  iapply (wp_skip (r := rO 12) (sub_O 12)) $$ H; iintro %_ H
  iapply (wp_put (r := rO 12) (w := (pieceO 12 O)) (sub_O 12) (fun f hf => step_O (O := O) (M := M) (L := L) 12 hf)) $$ H; iintro H
  iapply (wp_skip (r := rM 12) (sub_M 12)) $$ H; iintro %_ H
  iapply (wp_put (r := rM 12) (w := (piece1 12 M)) (sub_M 12) (fun f hf => step_M (O := O) (M := M) (L := L) 12 hf)) $$ H; iintro H
  iapply (wp_skip (r := rL 12) (sub_L 12)) $$ H; iintro %_ H
  iapply (wp_put (r := rL 12) (w := (piece1 12 L)) (sub_L 12) (fun f hf => step_L (O := O) (M := M) (L := L) 12 hf)) $$ H; iintro H
  iapply (wp_skip (r := rO 13) (sub_O 13)) $$ H; iintro %_ H
  iapply (wp_put (r := rO 13) (w := (pieceO 13 O)) (sub_O 13) (fun f hf => step_O (O := O) (M := M) (L := L) 13 hf)) $$ H; iintro H
  iapply (wp_skip (r := rM 13) (sub_M 13)) $$ H; iintro %_ H
  iapply (wp_put (r := rM 13) (w := (piece1 13 M)) (sub_M 13) (fun f hf => step_M (O := O) (M := M) (L := L) 13 hf)) $$ H; iintro H
  iapply (wp_skip (r := rL 13) (sub_L 13)) $$ H; iintro %_ H
  iapply (wp_put (r := rL 13) (w := (piece1 13 L)) (sub_L 13) (fun f hf => step_L (O := O) (M := M) (L := L) 13 hf)) $$ H; iintro H
  iapply (wp_skip (r := rO 14) (sub_O 14)) $$ H; iintro %_ H
  rw [wp_ret]; imodintro; iapply Hk; iexact H

set_option maxHeartbeats 1600000 in
theorem wp_part14 (O : FVec F S256x64 .f32) (M L : FVec F S256x1 .f32) (v6 : BitVec 32) (Kt : (BitVec 32) → sProp 𝕄) :
    iprop(Slot0 c (Done O M L 42) ∗ (Slot0 c (Done O M L 48) -∗ ∀ w, Kt w))
      ⊢ wp frame (wpE (defs₀ (F := F)) 𝒱₀ (c : Thread nD τ) none) Set.univ
          (k0_part14 a0 h0 (Memref.whole main_v1) (Memref.isWhole_whole _) (Memref.whole main_v2) (Memref.isWhole_whole _) a3 h3 a4 h4 a5 h5 (Memref.whole cc0_scratch0) (Memref.isWhole_whole _) (Memref.whole cc0_scratch1) (Memref.isWhole_whole _) (Memref.whole cc0_scratch2) (Memref.isWhole_whole _) cc0_scratch3 cc0_scratch4 cc0_scratch5 v6 M L O (k0_pay70 O)) Kt := by
  rw [k0_part14_eq_skeleton]
  unfold k0_part14_skel
  simp only [Prog.lift, Prog.bind_op, Prog.bind_ret, Prog.pure_eq_ret]
  iintro ⟨H, Hk⟩
  iapply (wp_put (r := rO 14) (w := (pieceO 14 O)) (sub_O 14) (fun f hf => step_O (O := O) (M := M) (L := L) 14 hf)) $$ H; iintro H
  iapply (wp_skip (r := rM 14) (sub_M 14)) $$ H; iintro %_ H
  iapply (wp_put (r := rM 14) (w := (piece1 14 M)) (sub_M 14) (fun f hf => step_M (O := O) (M := M) (L := L) 14 hf)) $$ H; iintro H
  iapply (wp_skip (r := rL 14) (sub_L 14)) $$ H; iintro %_ H
  iapply (wp_put (r := rL 14) (w := (piece1 14 L)) (sub_L 14) (fun f hf => step_L (O := O) (M := M) (L := L) 14 hf)) $$ H; iintro H
  iapply (wp_skip (r := rO 15) (sub_O 15)) $$ H; iintro %_ H
  iapply (wp_put (r := rO 15) (w := (pieceO 15 O)) (sub_O 15) (fun f hf => step_O (O := O) (M := M) (L := L) 15 hf)) $$ H; iintro H
  iapply (wp_skip (r := rM 15) (sub_M 15)) $$ H; iintro %_ H
  iapply (wp_put (r := rM 15) (w := (piece1 15 M)) (sub_M 15) (fun f hf => step_M (O := O) (M := M) (L := L) 15 hf)) $$ H; iintro H
  iapply (wp_skip (r := rL 15) (sub_L 15)) $$ H; iintro %_ H
  iapply (wp_put (r := rL 15) (w := (piece1 15 L)) (sub_L 15) (fun f hf => step_L (O := O) (M := M) (L := L) 15 hf)) $$ H; iintro H
  rw [wp_ret]; imodintro; ihave Hk := Hk $$ [H] <;> [iexact H; iapply Hk]

end Cert.KernelIdeal.Talk

end
-- ==== Proof.IdealBody.lean ====
/-
  The kernel's body on one device, from its cells open to its cells closed: it leaves the combined tables in its output's stage.
-/
module

public import proofs.«01_k».proof.Proof.IdealParts
public import proofs.«01_k».proof.Proof.IdealFill

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable {A : Dev nD → (S16x16x128.Idx → Elt F .f32) → Prop}
variable (c : Dev nD)

/-! ## The exchange buffer by slots, and slot 0 by shares -/

theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem comm_split (f : Comm (F := F) c) :
    (pt c cc0_scratch2 f : sProp 𝕄) ⊢ iprop(slotPt c 0 fullShare f ∗ slotPt c 1 fullShare f ∗ slotPt c 2 fullShare f ∗ slotPt c 3 fullShare f) :=
  Entails.of_eq ((Ring.pointsTo_blocks (ℓ := commM.view.loc (c : Thread nD τ)) slotSet slot_disj slot_cover f).trans (bigSep4 _))

theorem comm_join :
    iprop((∃ f, slotPt c 0 fullShare f) ∗ (∃ f, slotPt c 1 fullShare f) ∗ (∃ f, slotPt c 2 fullShare f) ∗ (∃ f, slotPt c 3 fullShare f))
      ⊢ (iprop(∃ f, pt c cc0_scratch2 f) : sProp 𝕄) := by
  iintro ⟨⟨%f0, H0⟩, ⟨%f1, H1⟩, ⟨%f2, H2⟩, ⟨%f3, H3⟩⟩
  iapply (Ring.pointsTo_blocks_join_exists (ℓ := commM.view.loc (c : Thread nD τ)) slotSet slot_disj slot_cover (q := fullShare) f0)
  rw [bigSep4]
  isplitl [H0]; · iexists f0; iexact H0
  isplitl [H1]; · iexists f1; iexact H1
  isplitl [H2]; · iexists f2; iexact H2
  iexists f3; iexact H3

theorem shares (f : Comm (F := F) c) :
    (slotPt c 0 fullShare f : sProp 𝕄) ⊣⊢ iprop(slotPt c 0 (shr 1) f ∗ slotPt c 0 (shr 2) f ∗ slotPt c 0 (shr 3) f) :=
  (pointsTo_share (PosShare.mem_left_op_right fullShare)).trans
    (Laws.sep_congr .rfl (pointsTo_share (PosShare.mem_left_op_right (fullShare : PosShare TreeShare).right)))

theorem slot0_back :
    iprop(sndPay A c 1 ∗ sndPay A c 2 ∗ sndPay A c 3) ⊢ (iprop(∃ f, ⌜A c ((slotM 0).view.read (Elt F) f)⌝ ∗ slotPt c 0 fullShare f) : sProp 𝕄) := by
  unfold sndPay
  iintro ⟨⟨%f1, %h1, H1⟩, ⟨%f2, -, H2⟩, ⟨%f3, -, H3⟩⟩
  ihave %h12 := (pointsTo_agree (ℓ := commM.view.loc (c : Thread nD τ)) (I := (slotM 0).view.set) (J := (slotM 0).view.set) (f := f1) (g := f2)) $$ [H1 H2]
  · isplitl [H1]; · iexact H1
    iexact H2
  ihave %h13 := (pointsTo_agree (ℓ := commM.view.loc (c : Thread nD τ)) (I := (slotM 0).view.set) (J := (slotM 0).view.set) (f := f1) (g := f3)) $$ [H1 H3]
  · isplitl [H1]; · iexact H1
    iexact H3
  ihave H2' := (Entails.of_eq (pointsTo_congr (ℓ := commM.view.loc (c : Thread nD τ)) (I := (slotM 0).view.set) (q := shr 2) (fun i hi => ((h12 i (Finset.mem_inter.mpr ⟨hi, hi⟩)).1).symm))) $$ H2
  ihave H3' := (Entails.of_eq (pointsTo_congr (ℓ := commM.view.loc (c : Thread nD τ)) (I := (slotM 0).view.set) (q := shr 3) (fun i hi => ((h13 i (Finset.mem_inter.mpr ⟨hi, hi⟩)).1).symm))) $$ H3
  iexists f1
  isplitr
  · ipureintro; exact h1
  iapply (shares c f1).2
  isplitl [H1]; · iexact H1
  isplitl [H2']; · iexact H2'
  iexact H3'

/-! ## The tables at the run's inputs -/

theorem fold_W (bt : IVec S16x128 32) (ln : IVec S16x1 32) :
    k0_pay2 (F := F) (Scalar.muli (myOf c) 128#32) (k0_pay1 (F := F) bt) poolIota slotIota ln = tabW bt ln c := rfl
theorem fold_S (q : FVec F S16x1x16x64 .f32) (kt : FVec F S16x16x64x128 .f32) :
    k0_pay11 (k0_pay6 (k0_pay3 q) laneIota 64#32 k0_pay4) (k0_pay7 kt) (k0_pay8 (k0_pay3 q) laneIota 64#32 k0_pay4 kt)
      (k0_pay9 (k0_pay3 q) laneIota 64#32 k0_pay4 kt) (k0_pay10 kt) (constant S256x128 .f32 0x00000000#32) = tabS q kt := rfl

variable (tO : Dev nD → FVec F S256x64 .f32) (tM tL : Dev nD → FVec F S256x1 .f32)
variable (q : FVec F S16x1x16x64 .f32) (bt : IVec S16x128 32) (ln : IVec S16x1 32)

/-- What the body takes -/
def bodyPre (κ : GSem nD τ sig → ℕ) : sProp 𝕄 :=
  iprop(opened m (Agrees tO tM tL) κ c ∗ credits c ∗ levAts L lv ∗ Ow c (O₀ c) ∗ pt c main_v1 (V m c main_v1) ∗ pt c main_v2 (V m c main_v2)
    ∗ (∃ f, pt c cc0_scratch0 f) ∗ (∃ f, pt c cc0_scratch1 f) ∗ (∃ f, pt c cc0_scratch2 f)
    ∗ pt c cc0_stg0_0 q ∗ pt c cc0_stg1_0 bt ∗ pt c cc0_stg2_0 ln ∗ (∃ f, pt c cc0_stg3_0 f))

/-- and what it gives back: every semaphore at zero, nothing owed, the result in place. -/
def bodyPost : sProp 𝕄 :=
  iprop(semVal (cellB c) 0 ∗ (bigSep Finset.univ fun i : Fin 10 => semVal ((c : Thread nD τ), osem i) 0) ∗ Ow c 0
    ∗ pt c main_v1 (V m c main_v1) ∗ pt c main_v2 (V m c main_v2)
    ∗ (∃ f, pt c cc0_scratch0 f) ∗ (∃ f, pt c cc0_scratch1 f) ∗ (∃ f, pt c cc0_scratch2 f)
    ∗ pt c cc0_stg0_0 q ∗ pt c cc0_stg1_0 bt ∗ pt c cc0_stg2_0 ln ∗ pt c cc0_stg3_0 (comb tO tM tL c))

set_option maxHeartbeats 4000000 in
theorem wp_body (κ : GSem nD τ sig → ℕ) (hO : tO c = tabO q bt ln (V m c main_v1) (V m c main_v2) c) (hM : tM c = tabM q bt ln (V m c main_v1) c) (hL : tL c = tabL q bt ln (V m c main_v1) c)
    (Kt : PUnit → sProp 𝕄) :
    iprop(bodyPre m c tO tM tL q bt ln κ ∗ (bodyPost m c tO tM tL q bt ln -∗ Kt ⟨⟩))
      ⊢ wp frame (wpE (defs₀ (F := F)) 𝒱₀ (c : Thread nD τ) none) Set.univ
          (cc0__body (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) Kt := by
  unfold bodyPre bodyPost opened credits payToks
  iintro ⟨⟨⟨#HR, HaB, Hcells, ⟨Hb1, Hb2, Hb3⟩, ⟨Htl0, Htl1⟩, ⟨Hts1, Hts2, Hts3⟩, ⟨Htr1, Htr2, Htr3⟩⟩, ⟨HcB, HcR1, HcR2, HcR3⟩, #Hlev, HO, Hv1, Hv2, Hs0, Hs1, ⟨%f2, Hs2⟩, Hq, Hbt, Hln, Ho⟩, Hk⟩
  ihave Hcells' := (Entails.of_eq (bigSep10 _)) $$ Hcells
  icases Hcells' with ⟨⟨HaL0, HrL0⟩, ⟨HaL1, HrL1⟩, ⟨HaS0, -⟩, ⟨HaS1, HrS1⟩, ⟨HaS2, HrS2⟩, ⟨HaS3, HrS3⟩, ⟨HaR0, -⟩, ⟨HaR1, HrR1⟩, ⟨HaR2, HrR2⟩, ⟨HaR3, HrR3⟩⟩
  ihave Hs2' := (comm_split c f2) $$ Hs2
  icases Hs2' with ⟨Hz0, Hz1, Hz2, Hz3⟩
  unfold cc0__body
  rw [wp_bind]
  iapply (wp_part1 m c κ bt ln _)
  isplitl [Hv1 Hv2 Hs0 Hs1 Htl0 HrL0 Htl1 HrL1 Hb1 Hz1 HrR1 Hb2 Hz2 HrR2 Hb3 Hz3 HrR3 HcB HO HaB Hbt Hln]
  · isplitr; · iexact HR
    isplitr; · iexact Hlev
    isplitl [Hv1]; · iexact Hv1
    isplitl [Hv2]; · iexact Hv2
    isplitl [Hs0]; · iexact Hs0
    isplitl [Hs1]; · iexact Hs1
    isplitl [Htl0]; · iexact Htl0
    isplitl [HrL0]; · iexact HrL0
    isplitl [Htl1]; · iexact Htl1
    isplitl [HrL1]; · iexact HrL1
    isplitl [Hb1]; · iexact Hb1
    isplitl [Hz1]; · iexists f2; iexact Hz1
    isplitl [HrR1]; · iexact HrR1
    isplitl [Hb2]; · iexact Hb2
    isplitl [Hz2]; · iexists f2; iexact Hz2
    isplitl [HrR2]; · iexact HrR2
    isplitl [Hb3]; · iexact Hb3
    isplitl [Hz3]; · iexists f2; iexact Hz3
    isplitl [HrR3]; · iexact HrR3
    isplitl [HcB]; · iexact HcB
    isplitl [HO]; · iexact HO
    isplitl [HaB]; · iexact HaB
    isplitl [Hbt]; · iexact Hbt
    iexact Hln
  iintro ⟨HcL0, HcL1, HO, HaB, Hp1, Hp2, Hp3, Hbt, Hln⟩
  dsimp only
  rw [wp_bind]
  iapply (wp_part2 c _ _ _ _ _ q _)
  isplitl [Hq]
  · iexact Hq
  iintro Hq
  dsimp only
  rw [fold_W]
  rw [wp_bind]
  iapply (wp_part3 m c κ _ _ _ _ _)
  isplitl [HcL0 HO HaL0]
  · isplitr; · iexact HR
    isplitr; · iexact Hlev
    isplitl [HcL0]; · iexact HcL0
    isplitl [HO]; · iexact HO
    iexact HaL0
  iintro ⟨HO, HaL0, Hs0, Hv1⟩
  dsimp only
  rw [wp_bind]
  iapply (wp_part4 c _ _ _ _ _ _ _ _)
  isplitr; · iempintro
  iintro -
  dsimp only
  rw [fold_S]
  rw [wp_bind]
  iapply (wp_part5 m c κ _ _ _)
  isplitl [HcL1 HO HaL1]
  · isplitr; · iexact HR
    isplitr; · iexact Hlev
    isplitl [HcL1]; · iexact HcL1
    isplitl [HO]; · iexact HO
    iexact HaL1
  iintro ⟨HO, HaL1, Hs1, Hv2⟩
  dsimp only
  rw [wp_bind]
  iapply (wp_part6 c _ _ _ _ _)
  isplitr; · iempintro
  iintro -
  dsimp only
  rw [show k0_pay14 (tabS q (V m c main_v1)) (k0_pay12 (tabW bt ln c)) = tabM q bt ln (V m c main_v1) c from rfl,
    show k0_pay16 (tabS q (V m c main_v1)) (k0_pay12 (tabW bt ln c)) = tabL q bt ln (V m c main_v1) c from rfl]
  rw [wp_bind]
  iapply (wp_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) c _ _ _ _ _ _)
  isplitl [Hz0]
  · unfold Slot0; iexists f2; isplitr; · ipureintro; exact done_zero _ _ _ _
    iexact Hz0
  iintro Hz
  dsimp only
  rw [show k0_pay23 (k0_pay5 laneIota 64#32 k0_pay4) (k0_pay21 (k0_pay17 (tabS q (V m c main_v1)) (k0_pay12 (tabW bt ln c))) (k0_pay18 (V m c main_v2))
      (k0_pay19 (tabS q (V m c main_v1)) (k0_pay12 (tabW bt ln c)) (V m c main_v2)) (k0_pay20 (tabS q (V m c main_v1)) (k0_pay12 (tabW bt ln c)) (V m c main_v2)))
      (k0_pay22 (k0_pay17 (tabS q (V m c main_v1)) (k0_pay12 (tabW bt ln c))) (k0_pay18 (V m c main_v2))) = tabO q bt ln (V m c main_v1) (V m c main_v2) c from rfl]
  rw [wp_bind]
  iapply (wp_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) c (tabO q bt ln (V m c main_v1) (V m c main_v2) c) (tabM q bt ln (V m c main_v1) c) (tabL q bt ln (V m c main_v1) c) _)
  isplitl [Hz]; · iexact Hz
  iintro Hz
  rw [wp_bind]
  iapply (wp_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) c (tabO q bt ln (V m c main_v1) (V m c main_v2) c) (tabM q bt ln (V m c main_v1) c) (tabL q bt ln (V m c main_v1) c) _)
  isplitl [Hz]; · iexact Hz
  iintro Hz
  rw [wp_bind]
  iapply (wp_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) c (tabO q bt ln (V m c main_v1) (V m c main_v2) c) (tabM q bt ln (V m c main_v1) c) (tabL q bt ln (V m c main_v1) c) _)
  isplitl [Hz]; · iexact Hz
  iintro Hz
  rw [wp_bind]
  iapply (wp_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) c (tabO q bt ln (V m c main_v1) (V m c main_v2) c) (tabM q bt ln (V m c main_v1) c) (tabL q bt ln (V m c main_v1) c) _)
  isplitl [Hz]; · iexact Hz
  iintro Hz
  rw [wp_bind]
  iapply (wp_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) c (tabO q bt ln (V m c main_v1) (V m c main_v2) c) (tabM q bt ln (V m c main_v1) c) (tabL q bt ln (V m c main_v1) c) _)
  isplitl [Hz]; · iexact Hz
  iintro Hz
  rw [wp_bind]
  iapply (wp_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) c (tabO q bt ln (V m c main_v1) (V m c main_v2) c) (tabM q bt ln (V m c main_v1) c) (tabL q bt ln (V m c main_v1) c) _)
  isplitl [Hz]; · iexact Hz
  iintro Hz
  rw [wp_bind]
  iapply (wp_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) c (tabO q bt ln (V m c main_v1) (V m c main_v2) c) (tabM q bt ln (V m c main_v1) c) (tabL q bt ln (V m c main_v1) c) _ _)
  isplitl [Hz]; · iexact Hz
  iintro Hz %w
  unfold Slot0
  icases Hz with ⟨%f, %hf, Hz⟩
  have hA : Agrees (tO) (tM) (tL) c ((slotM 0).view.read (Elt F) f) := (agrees_of_full _ _ _ c 0 f).mpr (by rw [hO, hM, hL]; exact full_of_done _ _ _ f hf)
  ihave Hz' := (shares c f).1 $$ Hz
  icases Hz' with ⟨Hz1, Hz2, Hz3⟩
  rw [wp_bind]
  iapply (wp_part15 m c κ _ f hA _)
  isplitl [HO Hz3 Hp3 Hts3 HrS3 Htr3 Hz2 Hp2 Hts2 HrS2 Htr2]
  · isplitr; · iexact HR
    isplitl [HO]; · iexact HO
    isplitl [Hz3]; · iexact Hz3
    isplitl [Hp3]; · iexact Hp3
    isplitl [Hts3]; · iexact Hts3
    isplitl [HrS3]; · iexact HrS3
    isplitl [Htr3]; · iexact Htr3
    isplitl [Hz2]; · iexact Hz2
    isplitl [Hp2]; · iexact Hp2
    isplitl [Hts2]; · iexact Hts2
    isplitl [HrS2]; · iexact HrS2
    iexact Htr2
  iintro ⟨HcS3, HcS2, HO⟩
  dsimp only
  rw [wp_bind]
  iapply (wp_part16 m c κ _ f hA _)
  isplitl [HO Hz1 Hp1 Hts1 HrS1 Htr1 HcS3 HaS3 HcR3 HaR3]
  · isplitr; · iexact HR
    isplitl [HO]; · iexact HO
    isplitl [Hz1]; · iexact Hz1
    isplitl [Hp1]; · iexact Hp1
    isplitl [Hts1]; · iexact Hts1
    isplitl [HrS1]; · iexact HrS1
    isplitl [Htr1]; · iexact Htr1
    isplitl [HcS3]; · iexact HcS3
    isplitl [HaS3]; · iexact HaS3
    isplitl [HcR3]; · iexact HcR3
    iexact HaR3
  iintro ⟨HcS1, HO, HaS3, HyS3, HaR3, HyR3⟩
  rw [wp_bind]
  iapply (wp_part17 m c κ _ _ _)
  isplitl [HO HcS2 HaS2 HcR2 HaR2 HcS1 HaS1]
  · isplitr; · iexact HR
    isplitl [HO]; · iexact HO
    isplitl [HcS2]; · iexact HcS2
    isplitl [HaS2]; · iexact HaS2
    isplitl [HcR2]; · iexact HcR2
    isplitl [HaR2]; · iexact HaR2
    isplitl [HcS1]; · iexact HcS1
    iexact HaS1
  iintro ⟨HO, HaS2, HyS2, HaR2, HyR2, HaS1, HyS1⟩
  ihave Hz := (slot0_back c) $$ [HyS1 HyS2 HyS3]
  · isplitl [HyS1]; · iexact HyS1
    isplitl [HyS2]; · iexact HyS2
    iexact HyS3
  icases Hz with ⟨%f', %hf', Hz⟩
  ihave H2 := (slotF_of_rcv tO tM tL c 2) $$ HyR2
  ihave H3 := (slotF_of_rcv tO tM tL c 3) $$ HyR3
  ihave H0 : SlotF c 0 (tO c) (tM c) (tL c) $$ [Hz]
  · unfold SlotF; iexists f'; isplitr; · ipureintro; exact (agrees_of_full tO tM tL c 0 f').mp hf'
    iexact Hz
  rw [wp_bind]
  iapply (wp_part18 m c κ tO tM tL _)
  isplitl [HO HcR1 HaR1 H0 H2 H3]
  · isplitr; · iexact HR
    isplitl [HO]; · iexact HO
    isplitl [HcR1]; · iexact HcR1
    isplitl [HaR1]; · iexact HaR1
    isplitl [H0]; · iexact H0
    isplitl [H2]; · iexact H2
    iexact H3
  iintro ⟨HO, HaR1, H0, H1, H2, H3⟩
  dsimp only
  rw [wp_bind]
  iapply (wp_part19 c tO tM tL _ _ _ _ _ _ _)
  isplitl [H1 H2 H3 Ho]
  · isplitl [H1]; · iexact H1
    isplitl [H2]; · iexact H2
    isplitl [H3]; · iexact H3
    iexact Ho
  iintro ⟨H1, H2, H3, Ho⟩
  rw [Prog.pure_eq_ret, wp_ret]
  imod (close m (Agrees tO tM tL) (κ (cellB c)) (cellB c)) $$ [HaB] with Hv_B
  · isplitr; · iapply (inv_at m (Agrees tO tM tL) κ (bar_mem c)); iexact HR
    iexact HaB
  imod (close m (Agrees tO tM tL) (κ (cellL c 0)) (cellL c 0)) $$ [HaL0] with Hv_L0
  · isplitr; · iapply (inv_at m (Agrees tO tM tL) κ (ld_mem c 0)); iexact HR
    iexact HaL0
  imod (close m (Agrees tO tM tL) (κ (cellL c 1)) (cellL c 1)) $$ [HaL1] with Hv_L1
  · isplitr; · iapply (inv_at m (Agrees tO tM tL) κ (ld_mem c 1)); iexact HR
    iexact HaL1
  imod (close0 m (Agrees tO tM tL) (κ (cellS c 0)) (cellS c 0) (duties_snd0 m (Agrees tO tM tL) c)) $$ [HaS0] with Hv_S0
  · isplitr; · iapply (inv_at m (Agrees tO tM tL) κ (snd_mem c 0)); iexact HR
    iexact HaS0
  imod (close m (Agrees tO tM tL) (κ (cellS c 1)) (cellS c 1)) $$ [HaS1] with Hv_S1
  · isplitr; · iapply (inv_at m (Agrees tO tM tL) κ (snd_mem c 1)); iexact HR
    iexact HaS1
  imod (close m (Agrees tO tM tL) (κ (cellS c 2)) (cellS c 2)) $$ [HaS2] with Hv_S2
  · isplitr; · iapply (inv_at m (Agrees tO tM tL) κ (snd_mem c 2)); iexact HR
    iexact HaS2
  imod (close m (Agrees tO tM tL) (κ (cellS c 3)) (cellS c 3)) $$ [HaS3] with Hv_S3
  · isplitr; · iapply (inv_at m (Agrees tO tM tL) κ (snd_mem c 3)); iexact HR
    iexact HaS3
  imod (close0 m (Agrees tO tM tL) (κ (cellR c 0)) (cellR c 0) (duties_rcv0 m (Agrees tO tM tL) c)) $$ [HaR0] with Hv_R0
  · isplitr; · iapply (inv_at m (Agrees tO tM tL) κ (rcv_mem c 0)); iexact HR
    iexact HaR0
  imod (close m (Agrees tO tM tL) (κ (cellR c 1)) (cellR c 1)) $$ [HaR1] with Hv_R1
  · isplitr; · iapply (inv_at m (Agrees tO tM tL) κ (rcv_mem c 1)); iexact HR
    iexact HaR1
  imod (close m (Agrees tO tM tL) (κ (cellR c 2)) (cellR c 2)) $$ [HaR2] with Hv_R2
  · isplitr; · iapply (inv_at m (Agrees tO tM tL) κ (rcv_mem c 2)); iexact HR
    iexact HaR2
  imod (close m (Agrees tO tM tL) (κ (cellR c 3)) (cellR c 3)) $$ [HaR3] with Hv_R3
  · isplitr; · iapply (inv_at m (Agrees tO tM tL) κ (rcv_mem c 3)); iexact HR
    iexact HaR3
  ihave Hs2 := (comm_join c) $$ [H0 H1 H2 H3]
  · unfold SlotF
    icases H0 with ⟨%g0, -, H0⟩
    icases H1 with ⟨%g1, -, H1⟩
    icases H2 with ⟨%g2, -, H2⟩
    icases H3 with ⟨%g3, -, H3⟩
    isplitl [H0]; · iexists g0; iexact H0
    isplitl [H1]; · iexists g1; iexact H1
    isplitl [H2]; · iexists g2; iexact H2
    iexists g3; iexact H3
  imodintro
  iapply Hk
  isplitl [Hv_B]; · iexact Hv_B
  isplitl [Hv_L0 Hv_L1 Hv_S0 Hv_S1 Hv_S2 Hv_S3 Hv_R0 Hv_R1 Hv_R2 Hv_R3]
  · iapply (Entails.of_eq (bigSep10 fun i : Fin 10 => semVal ((c : Thread nD τ), osem i) 0).symm)
    isplitl [Hv_L0]; · iexact Hv_L0
    isplitl [Hv_L1]; · iexact Hv_L1
    isplitl [Hv_S0]; · iexact Hv_S0
    isplitl [Hv_S1]; · iexact Hv_S1
    isplitl [Hv_S2]; · iexact Hv_S2
    isplitl [Hv_S3]; · iexact Hv_S3
    isplitl [Hv_R0]; · iexact Hv_R0
    isplitl [Hv_R1]; · iexact Hv_R1
    isplitl [Hv_R2]; · iexact Hv_R2
    iexact Hv_R3
  isplitl [HO]; · iexact HO
  isplitl [Hv1]; · iexact Hv1
  isplitl [Hv2]; · iexact Hv2
  isplitl [Hs0]; · iexists _; iexact Hs0
  isplitl [Hs1]; · iexists _; iexact Hs1
  isplitl [Hs2]; · iexact Hs2
  isplitl [Hq]; · iexact Hq
  isplitl [Hbt]; · iexact Hbt
  isplitl [Hln]; · iexact Hln
  iexact Ho

end Cert.KernelIdeal.Talk

end
-- ==== Proof.IdealRegion.lean ====
/-
  The kernel's one region as a segment of the program: what enters it, what it leaves, and that its body meets its obligation.
-/
module

public import proofs.«01_k».proof.Proof.IdealBody
public import Idealize.ShloMosaic.Lib.Pipeline.ValueKit

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The tables at the region's entry -/

/-- Every device's tables, from its queries, block table, lengths, keys and values as the region finds them. -/
def tO (c : Dev nD) : FVec F S256x64 .f32 := tabO (V m c main_arg0) (V m c main_arg3) (V m c main_v3) (V m c main_v1) (V m c main_v2) c
def tM (c : Dev nD) : FVec F S256x1 .f32 := tabM (V m c main_arg0) (V m c main_arg3) (V m c main_v3) (V m c main_v1) c
def tL (c : Dev nD) : FVec F S256x1 .f32 := tabL (V m c main_arg0) (V m c main_arg3) (V m c main_v3) (V m c main_v1) c

/-- What device `c`'s result holds after the region. -/
def res (c : Dev nD) : FVec F S16x1x16x64 .f32 := comb (tO m) (tM m) (tL m) c

/-- What describes a landed slot. -/
abbrev Ag : Dev nD → (S16x16x128.Idx → Elt F .f32) → Prop := Agrees (tO m) (tM m) (tL m)

/-! ## Buffers in and out -/

abbrev V₀ (c : Dev nD) : Valuation τ sig (Elt F) := fun b => m (c, b)
abbrev V₁ (c : Dev nD) : Valuation τ sig (Elt F) := StableHlo.after hostOps0 (V₀ m c)
abbrev V₂ (c : Dev nD) : Valuation τ sig (Elt F) := Function.update (V₁ m c) (Proc.devRef .tc main_v4) (res m c)
theorem V₂_out (c : Dev nD) : V₂ m c main_v4 = res m c := Function.update_self ..
theorem V₂_ne (c : Dev nD) (b : Ref sig .tc) (h : b ≠ main_v4) : V₂ m c b = V m c b :=
  Function.update_of_ne (StableHlo.devRef_ne_of_ne h) ..

/-- The unscoped buffers no window stages. -/
def rest : Finset (DevRef τ sig) :=
  {Proc.devRef .tc main_arg1, Proc.devRef .tc main_arg2, Proc.devRef .tc main_arg4, Proc.devRef .tc main_v1, Proc.devRef .tc main_v2}

theorem rest_eq (c : Dev nD) (W : Valuation τ sig (Elt F)) : (StableHlo.held (c : Thread nD τ) rest W : sProp 𝕄)
    = iprop(pt c main_arg1 (W main_arg1) ∗ pt c main_arg2 (W main_arg2) ∗ pt c main_arg4 (W main_arg4) ∗ pt c main_v1 (W main_v1) ∗ pt c main_v2 (W main_v2)) := by
  unfold StableHlo.held
  rw [bigSep_eq_bigSepL_of_eq [Proc.devRef .tc main_arg1, Proc.devRef .tc main_arg2, Proc.devRef .tc main_arg4, Proc.devRef .tc main_v1, Proc.devRef .tc main_v2] (by decide) (by decide)]
  rfl

theorem rest_same (c : Dev nD) : (StableHlo.held (c : Thread nD τ) rest (V₂ m c) : sProp 𝕄) = StableHlo.held (c : Thread nD τ) rest (V₁ m c) := by
  rw [rest_eq, rest_eq, V₂_ne m c main_arg1 (by decide), V₂_ne m c main_arg2 (by decide), V₂_ne m c main_arg4 (by decide), V₂_ne m c main_v1 (by decide),
    V₂_ne m c main_v2 (by decide)]

/-- The exchange buffer and the keys' and values' scratch, at contents not chosen. -/
def scr (c : Dev nD) : sProp 𝕄 := iprop((∃ f, pt c cc0_scratch0 f) ∗ (∃ f, pt c cc0_scratch1 f) ∗ (∃ f, pt c cc0_scratch2 f))

/-! ## The proof data -/

/-- From launch to the region. -/
def Tk (c : Dev nD) : sProp 𝕄 := iprop((∃ κ, records m (Ag m) κ ∗ linear c) ∗ credits c)
/-- Inside, the region's own cells open. -/
def Xk (c : Dev nD) : sProp 𝕄 := iprop((∃ κ, opened m (Ag m) κ c) ∗ credits c ∗ levAts L lv)
/-- And after. -/
def Yk (c : Dev nD) : sProp 𝕄 := semVal (cellB c) 0

def dat0 (c : Dev nD) : Pipeline.Dat τ (Elt F) Unit ℕ UU ℕ cfg0 c where
  A w := V m c (Pipeline.arrRef spec0 w)
  after w _ := match w with
    | 0 => V m c main_arg0
    | 1 => V m c main_arg3
    | 2 => V m c main_v3
    | 3 => res m c
  Φ t := if t.val = 0 then iprop(Xk m c ∗ StableHlo.held (c : Thread nD τ) rest (V₁ m c) ∗ scr c ∗ ∃ r, prngReg c r)
    else iprop(Yk c ∗ Pipeline.ownSems0 osem c ∗ StableHlo.held (c : Thread nD τ) rest (V₁ m c) ∗ scr c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

theorem owed_first (c : Dev nD) : (dat0 m c).owed t0_0.castSucc = O₀ c := by
  show (if (t0_0.castSucc : Fin (cfg0.N + 1)).val = 0 then O₀ c else 0) = O₀ c; exact if_pos rfl
theorem owed_last (c : Dev nD) : (dat0 m c).owed t0_0.succ = 0 := by
  show (if (t0_0.succ : Fin (cfg0.N + 1)).val = 0 then O₀ c else 0) = 0; exact if_neg (Nat.succ_ne_zero _)

/-- A window's block is its whole array. -/
theorem read_0 (f : main_arg0.ty.Contents (Elt F)) (t : Fin cfg0.N) : ((cfg0.win 0).blk t).view.read (Elt F) f = f := by
  funext j; refine congrArg f (funext fun a => Fin.ext ?_)
  exact Pipeline.Window.rect_emb_val_of_index_zero (cfg0.win 0) t a rfl j
theorem read_1 (f : main_arg3.ty.Contents (Elt F)) (t : Fin cfg0.N) : ((cfg0.win 1).blk t).view.read (Elt F) f = f := by
  funext j; refine congrArg f (funext fun a => Fin.ext ?_)
  exact Pipeline.Window.rect_emb_val_of_index_zero (cfg0.win 1) t a rfl j
theorem read_2 (f : main_v3.ty.Contents (Elt F)) (t : Fin cfg0.N) : ((cfg0.win 2).blk t).view.read (Elt F) f = f := by
  funext j; refine congrArg f (funext fun a => Fin.ext ?_)
  exact Pipeline.Window.rect_emb_val_of_index_zero (cfg0.win 2) t a rfl j

theorem before_0 (c : Dev nD) (t : Fin cfg0.N) (d) : (dat0 m c).before 0 t d = V m c main_arg0 :=
  ((dat0 m c).before_in_eq_fetched 0 rfl (fun _ => rfl) (fun _ _ _ => rfl) (fun t => (read_0 (V m c main_arg0) t).symm) t d).trans
    (read_0 (V m c main_arg0) t)
theorem before_1 (c : Dev nD) (t : Fin cfg0.N) (d) : (dat0 m c).before 1 t d = V m c main_arg3 :=
  ((dat0 m c).before_in_eq_fetched 1 rfl (fun _ => rfl) (fun _ _ _ => rfl) (fun t => (read_1 (V m c main_arg3) t).symm) t d).trans
    (read_1 (V m c main_arg3) t)
theorem before_2 (c : Dev nD) (t : Fin cfg0.N) (d) : (dat0 m c).before 2 t d = V m c main_v3 :=
  ((dat0 m c).before_in_eq_fetched 2 rfl (fun _ => rfl) (fun _ _ _ => rfl) (fun t => (read_2 (V m c main_v3) t).symm) t d).trans
    (read_2 (V m c main_v3) t)
theorem result (c : Dev nD) : (dat0 m c).arrAt 3 cfg0.N = res m c :=
  (dat0 m c).arrAt_eq_of_after_last 3 t0_0 (by decide +kernel) _ (fun j => rfl)

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) : (Ow c O : sProp 𝕄) ⊢ (dat.owesAt () t : sProp 𝕄) := by
  unfold Dat.owesAt Pipeline.owesWithin Dat.bound Ow; rw [h0, hr]
  iintro ⟨%W, HO⟩; iexists W; isplitr; · ipureintro; exact fun _ _ => Or.inl trivial
  iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) : (dat.owesAt () t : sProp 𝕄) ⊢ Ow c O := by
  unfold Dat.owesAt Pipeline.owesWithin Ow; rw [h0]
  iintro ⟨%W, -, HO⟩; iexists W; iexact HO

/-- A stage holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's obligation at the one point, the windows one by one. -/
def obPre (c : Dev nD) : sProp 𝕄 :=
  iprop((Xk m c ∗ StableHlo.held (c : Thread nD τ) rest (V₁ m c) ∗ scr c ∗ ∃ r, prngReg c r) ∗ (dat0 m c).owesAt () t0_0.castSucc
    ∗ (∃ d, stg c cc0_stg0_0 ((dat0 m c).before (0 : Fin 4) t0_0 d)) ∗ (∃ d, stg c cc0_stg1_0 ((dat0 m c).before (1 : Fin 4) t0_0 d))
    ∗ (∃ d, stg c cc0_stg2_0 ((dat0 m c).before (2 : Fin 4) t0_0 d)) ∗ (∃ d, stg c cc0_stg3_0 ((dat0 m c).before (3 : Fin 4) t0_0 d)))
def obPost (c : Dev nD) : sProp 𝕄 :=
  iprop((Yk c ∗ Pipeline.ownSems0 osem c ∗ StableHlo.held (c : Thread nD τ) rest (V₁ m c) ∗ scr c ∗ ∃ r, prngReg c r) ∗ (dat0 m c).owesAt () t0_0.succ
    ∗ stg c cc0_stg0_0 (V m c main_arg0) ∗ stg c cc0_stg1_0 (V m c main_arg3) ∗ stg c cc0_stg2_0 (V m c main_v3) ∗ stg c cc0_stg3_0 (res m c))

theorem ob_body (c : Dev nD) : obPre m c ⊢ wp frame (wpE (defs₀ (F := F)) 𝒱₀ (c : Thread nD τ) none) Set.univ
          (cc0__body (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5)
          (fun _ => obPost m c) := by
  unfold obPre obPost Xk Yk scr stg Pipeline.ownSems0
  rw [rest_eq]
  iintro ⟨⟨⟨⟨%κ, Hg⟩, Hc, Hlev⟩, ⟨H1, H2, H4, Hv1, Hv2⟩, ⟨Hs0, Hs1, Hs2⟩, Hp⟩, HO, ⟨%d0, %f0, %h0, Hq⟩, ⟨%d1, %f1, %h1, Hb⟩, ⟨%d2, %f2, %h2, Hl⟩, ⟨%d3, %f3, -, Ho⟩⟩
  rw [before_0] at h0; rw [before_1] at h1; rw [before_2] at h2
  subst h0; subst h1; subst h2
  ihave HO' := (owesAt_elim (dat0 m c) _ (O₀ c) (owed_first m c)) $$ HO
  iapply (wp_body m c (tO m) (tM m) (tL m) (V m c main_arg0) (V m c main_arg3) (V m c main_v3) κ rfl rfl rfl)
  isplitr [H1 H2 H4 Hp]
  · unfold bodyPre
    isplitl [Hg]; · iexact Hg
    isplitl [Hc]; · iexact Hc
    isplitl [Hlev]; · iexact Hlev
    isplitl [HO']; · iexact HO'
    isplitl [Hv1]; · iexact Hv1
    isplitl [Hv2]; · iexact Hv2
    isplitl [Hs0]; · iexact Hs0
    isplitl [Hs1]; · iexact Hs1
    isplitl [Hs2]; · iexact Hs2
    isplitl [Hq]; · iexact Hq
    isplitl [Hb]; · iexact Hb
    isplitl [Hl]; · iexact Hl
    iexists f3; iexact Ho
  unfold bodyPost
  iintro ⟨HY, Hsem, HO, Hv1, Hv2, Hs0, Hs1, Hs2, Hq, Hb, Hl, Ho⟩
  isplitr [HO Hq Hb Hl Ho]
  · isplitl [HY]; · iexact HY
    isplitl [Hsem]; · iexact Hsem
    isplitl [H1 H2 H4 Hv1 Hv2]
    · isplitl [H1]; · iexact H1
      isplitl [H2]; · iexact H2
      isplitl [H4]; · iexact H4
      isplitl [Hv1] <;> iassumption
    isplitl [Hs0 Hs1 Hs2]
    · isplitl [Hs0]; · iexact Hs0
      isplitl [Hs1] <;> iassumption
    iexact Hp
  isplitl [HO]; · iapply (owesAt_intro (dat0 m c) t0_0.succ 0 (owed_last m c) rfl); iexact HO
  isplitl [Hq]; · (iexists _; isplitr; · (ipureintro; rfl)); iexact Hq
  isplitl [Hb]; · (iexists _; isplitr; · (ipureintro; rfl)); iexact Hb
  isplitl [Hl]; · (iexists _; isplitr; · (ipureintro; rfl)); iexact Hl
  iexists _; isplitr; · (ipureintro; rfl)
  iexact Ho

theorem obligation (c : Dev nD) : BodyObligation (dat0 m c) (defs₀ (F := F)) 𝒱₀ () Set.univ := fun t => by
  rw [fin_N0 t]
  rw [bigSep_W0, bigSep_W0]
  simp only [owns_whole_eq]
  exact ob_body m c

/-! ## The segment -/

theorem sems_pair {Φ Ψ : Fin 10 → sProp 𝕄} : iprop(bigSep Finset.univ Φ ∗ bigSep Finset.univ Ψ) ⊢ (bigSep Finset.univ fun i => iprop(Φ i ∗ Ψ i) : sProp 𝕄) :=
  Entails.of_eq (BI.bigSep_sep _ _ _).symm

theorem open_all (c : Dev nD) (κ : GSem nD τ sig → ℕ) (i : Fin 10) :
    iprop(records m (Ag m) κ ∗ openTok ER ((c : Thread nD τ), osem i) ∗ semVal ((c : Thread nD τ), osem i) 0)
      ⊢ (|={Set.univ}=> iprop(atPos ER ((c : Thread nD τ), osem i) 0 ∅ 0 ∗ reached ER ((c : Thread nD τ), osem i) 0) : sProp 𝕄) := by
  iintro ⟨#HR, Ho, Hs⟩
  imod (Rounds.cell_open ER (talk m (Ag m)) (g := ((c : Thread nD τ), osem i)) (Set.mem_univ (κ ((c : Thread nD τ), osem i)))) $$ [Ho Hs] with ⟨Ha, Hr⟩
  · isplitr; · iapply (inv_at m (Ag m) κ (sc_mem c i)); iexact HR
    isplitl [Ho] <;> iassumption
  imodintro
  isplitl [Ha] <;> iassumption

theorem hopen (c : Dev nD) : iprop(Tk m c ∗ Pipeline.ownSems0 osem c ∗ levAts L lv) ⊢ (|={Set.univ}=> Xk m c : sProp 𝕄) := by
  unfold Tk Xk linear opened Pipeline.ownSems0
  iintro ⟨⟨⟨%κ, #HR, Ha, Ho, Ht⟩, Hc⟩, Hs, #Hlev⟩
  ihave Hos := (sems_pair (Φ := fun i : Fin 10 => (openTok ER ((c : Thread nD τ), osem i) : sProp 𝕄)) (Ψ := fun i : Fin 10 => (semVal ((c : Thread nD τ), osem i) 0 : sProp 𝕄))) $$ [Ho Hs]
  · isplitl [Ho]; · iexact Ho
    iexact Hs
  imod ((bigSep_with_persistent (R := records m (Ag m) κ) (S := Finset.univ) (Φ := fun i : Fin 10 => iprop(openTok ER ((c : Thread nD τ), osem i) ∗ semVal ((c : Thread nD τ), osem i) 0))
    fun i _ => open_all m c κ i).trans (bigSep_fupd _ _)) $$ [Hos] with Hcells
  · isplitr; · iexact HR
    iexact Hos
  imodintro
  isplitl [Ha Ht Hcells]
  · iexists κ
    isplitr; · iexact HR
    isplitl [Ha]; · iexact Ha
    isplitl [Hcells] <;> iassumption
  isplitl [Hc]; · iexact Hc
  iexact Hlev

theorem lv_stage (c : Dev nD) (w : Fin 4) (s : Fin (spec0 w).nbuf) : lv ((c : Thread nD τ), .dma ((spec0 w).sem s)) () = 0 := by
  have h : ∀ (w : Fin 4) (s : Fin (spec0 w).nbuf), role (.dma ((spec0 w).sem s)) = .none := by decide
  unfold lv; rw [h]

theorem cut (c : Dev nD) (t : Fin (cfg0.N + 1)) (g : GSem nD τ sig) (i : Unit) (h : 0 < (dat0 m c).owed t g i) : i ∈ L g ∧ (0 : ℕ) < lv g i := by
  have e : (dat0 m c).owed t = if t.val = 0 then O₀ c else 0 := rfl
  rw [e] at h
  split at h
  · rcases O₀_pos h with ⟨k, rfl⟩ | ⟨j, rfl⟩
    · exact ⟨mem_L _ _ _, by rw [lv_rcv]; decide⟩
    · exact ⟨mem_L _ _ _, by rw [lv_bar]; decide⟩
  · exact absurd h (Nat.lt_irrefl 0)

theorem kit : Pipeline.PLaunchFacts (nD := nD) (τ := τ) (pcfgs (F := F)) 0 := launch0.toP

theorem scopedRest_scr (c : Dev nD) :
    (Pipeline.scopedRest (Ix := Unit) (Name := ℕ) (U := UU) (Lvl := ℕ) (Val := Elt F) (Pipeline.pin (pcfgs (F := F)) adm 0).spec c : sProp 𝕄) = scr c :=
  scopedRest0_eq c

theorem hin (c : Dev nD) : iprop(Pipeline.scopedRest (Pipeline.pin (pcfgs (F := F)) adm 0).spec c ∗ (∃ r, prngReg c r) ∗ StableHlo.held (c.tc : Thread nD τ) rest (V₁ m c) ∗ Xk m c)
    ⊢ (pdats m 0 c).Φ 0 := by
  rw [show (pdats m 0 c).Φ 0 = iprop(Xk m c ∗ StableHlo.held (c : Thread nD τ) rest (V₁ m c) ∗ scr c ∗ ∃ r, prngReg c r) from rfl, scopedRest_scr]
  iintro ⟨Hs, Hp, Hr, HX⟩
  isplitl [HX]; · iexact HX
  isplitl [Hr]; · iexact Hr
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) rest (V₂ m c) ∗ Pipeline.ownSems0 osem c ∗ Yk c) := by
  rw [show (pdats m 0 c).Φ (Fin.last _) = iprop(Yk c ∗ Pipeline.ownSems0 osem c ∗ StableHlo.held (c : Thread nD τ) rest (V₁ m c) ∗ scr c ∗ ∃ r, prngReg c r) from rfl,
    scopedRest_scr, rest_same]
  iintro ⟨HY, Hos, Hr, Hs, Hp⟩
  isplitl [Hs]; · iexact Hs
  isplitl [Hp]; · iexact Hp
  isplitl [Hr]; · iexact Hr
  isplitl [Hos]; · iexact Hos
  iexact HY

theorem owed_start (c : Dev nD) : (pdats (F := F) m 0 c).owed 0 = O₀ c := by
  show (if ((0 : Fin (cfg0.N + 1)).val = 0) then O₀ c else 0) = O₀ c; exact if_pos rfl
theorem owed_end (c : Dev nD) : (pdats (F := F) m 0 c).owed (Fin.last _) = 0 := by
  show (if (Fin.last cfg0.N).val = 0 then O₀ c else 0) = 0
  rw [Fin.val_last, if_neg (by rw [show cfg0.N = 1 from N_0]; decide)]

theorem arr_in (c : Dev nD) : ∀ w : Fin 4, (dat0 m c).arrAt w 0 = V₁ m c (Proc.devRef .tc (Pipeline.arrRef spec0 w)) := fun w => rfl
theorem arr_out (c : Dev nD) : ∀ w : Fin 4, (dat0 m c).arrAt w cfg0.N = V₂ m c (Proc.devRef .tc (Pipeline.arrRef spec0 w))
  | 0 => ((dat0 m c).arrAt_in 0 rfl _).trans (V₂_ne m c main_arg0 (by decide)).symm
  | 1 => ((dat0 m c).arrAt_in 1 rfl _).trans (V₂_ne m c main_arg3 (by decide)).symm
  | 2 => ((dat0 m c).arrAt_in 2 rfl _).trans (V₂_ne m c main_v3 (by decide)).symm
  | 3 => (result m c).trans (V₂_out m c).symm

local notation "ℝ𝕊" => Pipeline.RegionSeg (pcfgs (F := F)) adm (pdats m) () defs₀ 𝒱₀ L lv

set_option backward.isDefEq.respectTransparency.types false in
def reg : ℝ𝕊 0 :=
  Pipeline.RegionSeg.ofTalk (pcfgs (F := F)) adm (pdats m) () defs₀ 𝒱₀ L lv 0 osem (by decide : Pipeline.OwnSemFacts spec0 osem)
    rest rest (Finset.Subset.refl _) kit rfl (fun c => (obligation m c).loose)
    (fun _ => 0) O₀ (fun c => (owed_start m c).trans (zero_add _).symm) (owed_end m) (fun _ => rfl) (fun c w => (dat0 m c).share_full (fun _ => rfl) w)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => mem_L _ _ _, fun c w s => (lv_stage c w s).le, fun c t g i h => cut m c t g i h⟩
    (fun _ => iprop(emp))
    (arr_in m) (arr_out m)

end Cert.KernelIdeal.Talk

end
-- ==== Proof.IdealLaunch.lean ====
/-
  The run: the program's two segments, what the launch deals to each device, and what every execution ends with.
-/
module

public import proofs.«01_k».proof.Proof.IdealRegion

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The two segments -/

/-- The buffers of the launch. -/
def bufs : Finset (DevRef τ sig) := (StableHlo.tcRefs τ sig).filter fun b => ¬ b.isScoped

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem arrs_sub : Pipeline.arrRefs (τ := τ) spec0 ⊆ bufs := by decide
theorem bufs_rest : bufs \ Pipeline.arrRefs (τ := τ) spec0 = rest := by decide

/-- Those the windows stage, and the rest. -/
theorem bufs_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) rest W) := by
  rw [StableHlo.held_sub_split (c : Thread nD τ) arrs_sub W, bufs_rest]

theorem ops_sub : ∀ op ∈ (hostOps0 : List (HloOp τ sig (Elt F))), op.bufs ⊆ bufs := fun op h => by
  simp only [List.mem_cons, List.not_mem_nil, or_false] at h
  rcases h with rfl | rfl | rfl
  · show ({Proc.devRef .tc main_arg1, Proc.devRef .tc main_v1} : Finset (DevRef τ sig)) ⊆ bufs; decide
  · show ({Proc.devRef .tc main_arg2, Proc.devRef .tc main_v2} : Finset (DevRef τ sig)) ⊆ bufs; decide
  · show ({Proc.devRef .tc main_arg4, Proc.devRef .tc main_v3} : Finset (DevRef τ sig)) ⊆ bufs; decide

/-- What a device holds beside its buffers up to the region. -/
def Side (c : Dev nD) : sProp 𝕄 := iprop(Tk m c ∗ (∃ r, prngReg c r) ∗ Ow c (O₀ c))

local notation "ℍ" => Pipeline.HostSeg (Name := ℕ) (U := UU) (pcfgs (F := F)) defs₀ 𝒱₀ L lv

def seg0 : ℍ := Pipeline.HostSeg.ofOps _ _ _ _ _ bufs hostOps0 ops_sub (List.forall_iff_forall_mem.mp hostOps0_fresh) (V₀ m) (Side m)

theorem reg_pre (c : Dev nD) : iprop(StableHlo.held (c : Thread nD τ) bufs (V₁ m c) ∗ Side m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) rest (V₁ m c) ∗ emp) ∗ Tk m c ∗ ∃ Wd, owes (c : Thread nD τ) (0 + O₀ c) Wd)
  rw [bufs_split, zero_add]
  unfold Side Ow
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c
    ⊢ iprop((StableHlo.held (c : Thread nD τ) bufs (V₂ m c) ∗ semVal (cellB c) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) rest (V₂ m c) ∗ emp) ∗ Yk c ∗ ∃ Wd, owes (c : Thread nD τ) (0 : CellTallies nD τ sig Unit) Wd) ⊢ _
  rw [bufs_split]
  unfold Yk
  iintro ⟨Ha, -, ⟨Hr, -⟩, Hb, HO⟩
  isplitr [HO]
  · isplitr [Hb]
    · isplitl [Ha]; · iexact Ha
      iexact Hr
    iexact Hb
  iexact HO

def segs : List (Pipeline.Seg (pcfgs (F := F)) adm (pdats m) () defs₀ 𝒱₀ L lv) := [.host (seg0 m), .region (reg m)]

theorem main_eq (c : Dev nD) : main (F := F) c = Pipeline.Seg.run (segs m) :=
  main_segs adm (pdats m) () 𝒱₀ L lv (seg0 m) (reg m) rfl c

/-! ## The tokens -/

/-- The eleven duties paid onto a device's cells. -/
abbrev tsem : Fin 11 → SemLoc sig :=
  fun | 0 => .reg barS | 1 => .reg barS | 2 => .reg barS | 3 => .dma (ldS 0) | 4 => .dma (ldS 1) | 5 => .dma (sndS 1) | 6 => .dma (sndS 2)
      | 7 => .dma (sndS 3) | 8 => .dma (rcvS 1) | 9 => .dma (rcvS 2) | 10 => .dma (rcvS 3)
abbrev tdut : Fin 11 → Fin 4 := fun | 0 => 1 | 1 => 2 | 2 => 3 | _ => 0
theorem tk_inj : Function.Injective (fun k : Fin 11 => (tsem k, tdut k)) := by decide
def talkToks : Finset (GSem nD τ sig × ℕ × Fin 4) :=
  Finset.univ.map ⟨fun ck : Dev nD × Fin 11 => (((ck.1 : Thread nD τ), tsem ck.2), 0, tdut ck.2), fun _ _ h =>
    Prod.ext (congrArg (fun t : GSem nD τ sig × ℕ × Fin 4 => t.1.1.1) h)
      (tk_inj (Prod.ext (congrArg (fun t : GSem nD τ sig × ℕ × Fin 4 => t.1.2) h) (congrArg (fun t : GSem nD τ sig × ℕ × Fin 4 => t.2.2) h)))⟩

/-- A device's own eleven. -/
def toks (c : Dev nD) : sProp 𝕄 :=
  iprop((dutyTok ER (cellB c) 0 1 ∗ dutyTok ER (cellB c) 0 2 ∗ dutyTok ER (cellB c) 0 3)
    ∗ (dutyTok ER (cellL c 0) 0 0 ∗ dutyTok ER (cellL c 1) 0 0)
    ∗ (dutyTok ER (cellS c 1) 0 0 ∗ dutyTok ER (cellS c 2) 0 0 ∗ dutyTok ER (cellS c 3) 0 0)
    ∗ (dutyTok ER (cellR c 1) 0 0 ∗ dutyTok ER (cellR c 2) 0 0 ∗ dutyTok ER (cellR c 3) 0 0))

theorem toks_of (c : Dev nD) : (bigSep Finset.univ fun k : Fin 11 => (dutyTok ER ((c : Thread nD τ), tsem k) 0 (tdut k) : sProp 𝕄)) ⊢ toks c := by
  rw [bigSep_univ_eq_bigSepL [0, 1, 2, 3, 4, 5, 6, 7, 8, 9, 10] (by decide) (by decide)]
  unfold toks
  show iprop(dutyTok ER (cellB c) 0 1 ∗ dutyTok ER (cellB c) 0 2 ∗ dutyTok ER (cellB c) 0 3 ∗ dutyTok ER (cellL c 0) 0 0 ∗ dutyTok ER (cellL c 1) 0 0
    ∗ dutyTok ER (cellS c 1) 0 0 ∗ dutyTok ER (cellS c 2) 0 0 ∗ dutyTok ER (cellS c 3) 0 0 ∗ dutyTok ER (cellR c 1) 0 0 ∗ dutyTok ER (cellR c 2) 0 0
    ∗ dutyTok ER (cellR c 3) 0 0) ⊢ _
  iintro ⟨H0, H1, H2, H3, H4, H5, H6, H7, H8, H9, H10⟩
  isplitl [H0 H1 H2]
  · isplitl [H0]; · iexact H0
    isplitl [H1] <;> iassumption
  isplitl [H3 H4]
  · isplitl [H3] <;> iassumption
  isplitl [H5 H6 H7]
  · isplitl [H5]; · iexact H5
    isplitl [H6] <;> iassumption
  isplitl [H8]; · iexact H8
  isplitl [H9] <;> iassumption

theorem toks_dealt : bigSep talkToks (fun x => (dutyTok ER x.1 x.2.1 x.2.2 : sProp 𝕄)) ⊢ bigSep Finset.univ fun c : Dev nD => toks c := by
  unfold talkToks; rw [bigSep_map, bigSep_univ_prod]
  exact bigSep_mono fun c _ => toks_of c

/-- The barrier's and the landings' tokens go to the device that pays them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep', bigSep_sep',
    bigSep_univ_equiv (Equiv.addRight (1 : Dev nD)) (fun c : Dev nD => (dutyTok ER (cellB c) 0 1 : sProp 𝕄)),
    bigSep_univ_equiv (Equiv.addRight (2 : Dev nD)) (fun c : Dev nD => (dutyTok ER (cellB c) 0 2 : sProp 𝕄)),
    bigSep_univ_equiv (Equiv.addRight (3 : Dev nD)) (fun c : Dev nD => (dutyTok ER (cellB c) 0 3 : sProp 𝕄)),
    bigSep_univ_equiv (Equiv.subRight (1 : Dev nD)) (fun c : Dev nD => (dutyTok ER (cellR c 1) 0 0 : sProp 𝕄)),
    bigSep_univ_equiv (Equiv.subRight (2 : Dev nD)) (fun c : Dev nD => (dutyTok ER (cellR c 2) 0 0 : sProp 𝕄)),
    bigSep_univ_equiv (Equiv.subRight (3 : Dev nD)) (fun c : Dev nD => (dutyTok ER (cellR c 3) 0 0 : sProp 𝕄))]
  exact BI.Entails.refl _

/-! ## The launch credit -/

theorem bar_ne_rcv (a c : Dev nD) (k : Fin 4) : cellB a ≠ cellR c k := fun h => absurd (congrArg (fun g : GSem nD τ sig => role g.2) h) (by rw [role_rcv]; exact fun h => nomatch h)
theorem sub_iff (d c k : Fin 4) : c = d - k ↔ d = c + k := by revert d c k; decide
theorem add_iff (d c k : Fin 4) : c = d + k ↔ d = c - k := by revert d c k; decide

theorem aR_at (d c : Dev nD) (k k' : Fin 4) : aR d k' (cellR c k) () = if k = k' then (if d = c + k' then N else 0) else 0 := by
  rw [tallyAt_apply]
  by_cases hk : k = k'
  · subst hk; rw [if_pos rfl]
    by_cases hd : d = c + k
    · rw [if_pos hd, if_pos ⟨by rw [(sub_iff d c k).mpr hd], rfl⟩]
    · rw [if_neg hd, if_neg (fun h => hd ((sub_iff d c k).mp (congrArg (fun g : GSem nD τ sig => g.1.1) h.1)))]
  · rw [if_neg hk, if_neg]
    intro h
    have := congrArg (fun g : GSem nD τ sig => role g.2) h.1
    simp only [role_rcv, Role.rcv.injEq] at this
    exact hk this
theorem aB_at (d c : Dev nD) (j : Fin 4) : aB d j (cellB c) () = if d = c - j then 1 else 0 := by
  rw [tallyAt_apply]
  by_cases hd : d = c - j
  · rw [if_pos hd, if_pos ⟨by rw [(add_iff d c j).mpr hd], rfl⟩]
  · rw [if_neg hd, if_neg (fun h => hd ((add_iff d c j).mp (congrArg (fun g : GSem nD τ sig => g.1.1) h.1)))]
theorem aR_bar (d c : Dev nD) (k : Fin 4) : aR d k (cellB c) () = 0 := by
  rw [tallyAt_apply, if_neg (fun h => bar_ne_rcv _ _ _ h.1)]
theorem aB_rcv (d c : Dev nD) (j k : Fin 4) : aB d j (cellR c k) () = 0 := by
  rw [tallyAt_apply, if_neg (fun h => bar_ne_rcv _ _ _ h.1.symm)]

theorem owed_bar (d c : Dev nD) : O₀ d (cellB c) () = (if d = c - 3 then 1 else 0) + (if d = c - 2 then 1 else 0) + (if d = c - 1 then 1 else 0) := by
  unfold O₀
  simp only [Pi.add_apply, Finsupp.add_apply, aR_bar, aB_at, zero_add]
theorem owed_rcv (d c : Dev nD) (k : Fin 4) (hk : k ≠ 0) : O₀ d (cellR c k) () = if d = c + k then N else 0 := by
  unfold O₀
  simp only [Pi.add_apply, Finsupp.add_apply, aB_rcv, aR_at, add_zero]
  fin_cases k
  · exact absurd rfl hk
  all_goals simp

theorem launch_bar (c : Dev nD) :
    tallyOn (cellB c) (launchCredit (Pipeline.owing O₀) 0 (cellB c)) = (tallyAt (cellB c) () 3 : CellTallies nD τ sig Unit) := by
  unfold tallyAt; refine congrArg _ (Finsupp.ext fun u => ?_); cases u
  rw [Pipeline.launchCredit_owing, Finsupp.single_eq_same, Finset.sum_congr rfl fun d _ => owed_bar d c]
  simp only [Finset.sum_add_distrib, Finset.sum_ite_eq', Finset.mem_univ, if_true]
theorem launch_rcv (c : Dev nD) (k : Fin 4) (hk : k ≠ 0) :
    tallyOn (cellR c k) (launchCredit (Pipeline.owing O₀) 0 (cellR c k)) = (tallyAt (cellR c k) () N : CellTallies nD τ sig Unit) := by
  unfold tallyAt; refine congrArg _ (Finsupp.ext fun u => ?_); cases u
  rw [Pipeline.launchCredit_owing, Finsupp.single_eq_same, Finset.sum_congr rfl fun d _ => owed_rcv d c k hk]
  simp only [Finset.sum_ite_eq', Finset.mem_univ, if_true]

theorem creds (c : Dev nD) : (Pipeline.launchCred O₀ c : sProp 𝕄) ⊢ credits c := by
  unfold Pipeline.launchCred credits
  rw [bigSep_univ_at _ (SemLoc.reg barS), launch_bar]
  refine sep_mono_right ?_
  refine (Entails.of_eq (BI.bigSep_erase (i := SemLoc.dma (rcvS 1)) (by decide))).trans ?_
  rw [launch_rcv c 1 (by decide)]
  refine sep_mono_right ?_
  refine (Entails.of_eq (BI.bigSep_erase (i := SemLoc.dma (rcvS 2)) (by decide))).trans ?_
  rw [launch_rcv c 2 (by decide)]
  refine sep_mono_right ?_
  rw [← launch_rcv c 3 (by decide)]
  exact bigSep_elim (i := SemLoc.dma (rcvS 3)) (by decide)

/-! ## The launch -/

theorem cells_disjoint : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact (show osem ck.2 ≠ .reg barS from fun h => nomatch h) (congrArg Prod.snd h)

/-- The launch element: the pipeline's own at the staging cells; the protocol's. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- Everything of the protocol's launch starts on device 0. -/
def G (c : Dev nD) : sProp 𝕄 := if c = 0 then BI.own (ER (launchOf barCells scCells talkToks)) else iprop(emp)
theorem G_all : bigSep Finset.univ (G (F := F)) = (BI.own (ER (launchOf barCells scCells talkToks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) bufs (V₀ m c) ∗ Side m c)
abbrev Tₙ (c : Dev nD) : sProp 𝕄 := iprop(StableHlo.held (c : Thread nD τ) bufs (V₂ m c) ∗ semVal (cellB c) 0)

/-- What of a device's launch is not the protocol's. -/
def bundle (c : Dev nD) : sProp 𝕄 :=
  iprop(StableHlo.held (c : Thread nD τ) bufs (V₀ m c) ∗ credits c ∗ Ow c (O₀ c) ∗ ∃ r, prngReg c r)

theorem T₀_intro (κ : GSem nD τ sig → ℕ) (c : Dev nD) : iprop(records m (Ag m) κ ∗ (linear c ∗ bundle m c)) ⊢ T₀ m c := by
  unfold bundle T₀ Side Tk
  iintro ⟨#HR, Hl, Hh, Hc, HO, Hp⟩
  isplitl [Hh]; · iexact Hh
  isplitr [HO Hp]
  · isplitl [Hl]
    · iexists κ
      isplitr; · iexact HR
      iexact Hl
    iexact Hc
  isplitl [Hp] <;> iassumption

theorem unscoped_sems (c : Dev nD) : (unscopedSems0 c : sProp 𝕄) = semVal (cellB c) 0 := by
  unfold unscopedSems0
  rw [show (Finset.univ.filter fun sm : SemLoc sig => ¬ sm.isScoped .tc) = {SemLoc.reg barS} from by decide, BI.bigSep_singleton]

theorem both {Φ Ψ : Dev nD → sProp 𝕄} : iprop(bigSep Finset.univ Φ ∗ bigSep Finset.univ Ψ) ⊢ (bigSep Finset.univ fun i => iprop(Φ i ∗ Ψ i) : sProp 𝕄) :=
  Entails.of_eq (BI.bigSep_sep _ _ _).symm
theorem each {Φ Ψ : Dev nD → sProp 𝕄} : (bigSep Finset.univ fun i => iprop(Φ i ∗ Ψ i) : sProp 𝕄) ⊢ iprop(bigSep Finset.univ Φ ∗ bigSep Finset.univ Ψ) :=
  Entails.of_eq (BI.bigSep_sep _ _ _)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (cellB c) 0 ∗ G c)) : sProp 𝕄) := by
    rw [show unscopedBufs c (fun b => m ((c : Thread nD τ).loc b)) = StableHlo.held (c : Thread nD τ) bufs (V₀ m c) from unscoped_held c (V₀ m c),
      unscoped_sems]
    unfold bundle Ow
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexists ∅; iexact HO
      iexists (ρ c); iexact Hp
    isplitl [Hus] <;> iassumption
  have hv : bigSep Finset.univ (fun c : Dev nD => (semVal (cellB c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cellB c) 0 ∅ 0 : sProp 𝕄)) :=
    Entails.of_eq (bigSep_map (s := Finset.univ) barEmb (Φ := fun g : GSem nD τ sig => (atPos ER g 0 ∅ 0 : sProp 𝕄)))
  have hopn : bigSep scCells (fun g => (openTok ER g : sProp 𝕄))
      ⊢ bigSep Finset.univ (fun c : Dev nD => bigSep Finset.univ fun i : Fin 10 => openTok ER ((c : Thread nD τ), osem i)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (cellB c) 0 ∗ G c)) : sProp 𝕄) from bigSep_mono fun c _ => hcore c) $$ H
  ihave H2 := each $$ H'; icases H2 with ⟨HB, H3⟩
  ihave H4 := each $$ H3; icases H4 with ⟨Hv, HG⟩
  ihave Hu := (Entails.of_eq (G_all (F := F))) $$ HG
  imod (Rounds.fund_launch ER (talk m (Ag m)) cells_disjoint (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m (Ag m) κ) (Φ := fun c => iprop(linear c ∗ bundle m c)) fun c _ => T₀_intro m κ c)
  isplitr
  · unfold records
    isplitr; · iexact Hinv
    iexact Hr
  iapply both
  isplitr [HB]
  · unfold linear
    iapply both; isplitl [Hat]; · iapply hat $$ Hat
    iapply both; isplitl [Hopen]; · iapply hopn $$ Hopen
    iapply (toks_around (F := F))
    iapply (toks_dealt (F := F)) $$ Htok
  · iexact HB

/-! ## The run -/

/-- Every final state keeps the arguments, holds the result, and is quiescent. -/
def Ends (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_v4) = res m c) ∧ r.2.sem = fun _ => 0

theorem unscoped_only : ∀ sm : SemLoc sig, sm.isScoped .tc = false → sm = .reg barS := by decide

/-- Six of the held buffers. -/
theorem held_six (c : Dev nD) (W : Valuation τ sig (Elt F)) : (StableHlo.held (c : Thread nD τ) bufs W : sProp 𝕄)
    ⊢ iprop(pt c main_arg0 (W main_arg0) ∗ pt c main_arg1 (W main_arg1) ∗ pt c main_arg2 (W main_arg2) ∗ pt c main_arg3 (W main_arg3) ∗ pt c main_arg4 (W main_arg4)
      ∗ pt c main_v4 (W main_v4)) := by
  unfold StableHlo.held
  rw [bigSep_eq_bigSepL_of_eq [Proc.devRef .tc main_arg0, Proc.devRef .tc main_arg1, Proc.devRef .tc main_arg2, Proc.devRef .tc main_arg3, Proc.devRef .tc main_arg4,
    Proc.devRef .tc main_v4, Proc.devRef .tc main_v1, Proc.devRef .tc main_v2, Proc.devRef .tc main_v3] (by decide) (by decide)]
  show iprop(pt c main_arg0 (W main_arg0) ∗ pt c main_arg1 (W main_arg1) ∗ pt c main_arg2 (W main_arg2) ∗ pt c main_arg3 (W main_arg3) ∗ pt c main_arg4 (W main_arg4)
      ∗ pt c main_v4 (W main_v4) ∗ pt c main_v1 (W main_v1) ∗ pt c main_v2 (W main_v2) ∗ pt c main_v3 (W main_v3)) ⊢ _
  iintro ⟨H0, H1, H2, H3, H4, H5, -⟩
  isplitl [H0]; · iexact H0
  isplitl [H1]; · iexact H1
  isplitl [H2]; · iexact H2
  isplitl [H3]; · iexact H3
  isplitl [H4] <;> iassumption

set_option backward.isDefEq.respectTransparency.types false in
theorem run_main : θ_run defs (onTc (τ := τ) (main (F := F))) ⟨m, fun _ => 0, ρ⟩ (Ends m) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => reg_pre m c, fun c => reg_post m c⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_arg2) = V₂ m c main_arg2 ∧ s.mem ((c : Thread nD τ).loc main_arg3) = V₂ m c main_arg3
        ∧ s.mem ((c : Thread nD τ).loc main_arg4) = V₂ m c main_arg4 ∧ s.mem ((c : Thread nD τ).loc main_v4) = V₂ m c main_v4)
      ∧ s.sem (cellB c) = 0)
    (hfin := fun c s' => by
      dsimp only [Tₙ]
      iintro ⟨⟨Hh, Hb⟩, HSI⟩
      ihave H := (held_six c (V₂ m c)) $$ Hh
      icases H with ⟨H0, H1, H2, H3, H4, H5⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        rw [V₂_ne m c main_arg0 (by decide), V_main_arg0] at h0
        rw [V₂_ne m c main_arg1 (by decide), V_main_arg1] at h1
        rw [V₂_ne m c main_arg2 (by decide), V_main_arg2] at h2
        rw [V₂_ne m c main_arg3 (by decide), V_main_arg3] at h3
        rw [V₂_ne m c main_arg4 (by decide), V_main_arg4] at h4
        rw [V₂_out] at h5
        exact ⟨h0, h1, h2, h3, h4, h5⟩,
      sem_eq_zero hs fun c sm hsm => by
        obtain rfl := unscoped_only sm hsm
        exact (h c).2⟩)

end Cert.KernelIdeal.Talk

end
-- ==== Proof.Frames.lean ====
/- The frames: each program ends without fault, its arguments unchanged and every semaphore counter at zero; and the
   one named constant of the idealized kernel. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.IdealLaunch
public import proofs.«01_k».proof.Proof.WordLaunch

@[expose] public section

noncomputable section

namespace Cert.Proof

open Idealize.ShloMosaic Idealize.ShloMosaic.TcCoe Idealize.SL.Sem

/-- The shape relations that the precondition's operations state, of one device's blocks. -/
instance factsPre : Cert.Pre_in_domain_KernelIdeal.Facts where
  shapeCasts_S16_S16x1 := by decide
  bcast_S16x1_S16x128_0_1 := by decide
  bcast_S_S16x128 := by decide
  bcast_S_S16x1x16x64 := by decide
  reducesTo_S16x1x16x64_S_d0_1_2_3 := by decide
  h_S_ := by decide
  bcast_S_S128x16x16x64 := by decide
  reducesTo_S128x16x16x64_S_d0_1_2_3 := by decide
  bcast_S_S16 := by decide
  reducesTo_S16_S_d0 := by decide
  reducesTo_S16x128_S_d0_1 := by decide

/-- The same of the whole arrays. -/
instance factsPreRef : Cert.Pre_in_domain_ReferenceIdeal.Facts where
  shapeCasts_S16_S16x1 := by decide
  bcast_S16x1_S16x128_0_1 := by decide
  bcast_S_S16x128 := by decide
  bcast_S_S16x1x16x64 := by decide
  reducesTo_S16x1x16x64_S_d0_1_2_3 := by decide
  h_S_ := by decide
  bcast_S_S512x16x16x64 := by decide
  reducesTo_S512x16x16x64_S_d0_1_2_3 := by decide
  bcast_S_S16 := by decide
  reducesTo_S16_S_d0 := by decide
  reducesTo_S16x128_S_d0_1 := by decide

/-- The kernel's frame, from any initial memory. -/
theorem frame_kernel : Cert.quiescent_Kernel := fun m ρ _ =>
  (θ_run Cert.Kernel.defs _ _).mono (fun _ h =>
      ⟨fun c => let ⟨h0, h1, h2, h3, h4, _⟩ := h.1 c; ⟨h0, h1, h2, h3, h4⟩, h.2⟩)
    (Cert.Kernel.Talk.run_main (F := Bits) m ρ)

/-- The idealized kernel's frame. -/
theorem frame_ideal : Cert.quiescent_KernelIdeal := fun m ρ _ =>
  (θ_run Cert.KernelIdeal.defs _ _).mono (fun _ h =>
      ⟨fun c => let ⟨h0, h1, h2, h3, h4, _⟩ := h.1 c; ⟨h0, h1, h2, h3, h4⟩, h.2⟩)
    (Cert.KernelIdeal.Talk.run_main (F := Ideal) m ρ)

/-- The reference's frame: it declares no semaphore. -/
theorem frame_ref : Cert.quiescent_ReferenceIdeal := fun m ρ _ =>
  (θ_run Cert.ReferenceIdeal.defs _ _).mono (fun r h =>
      ⟨fun c => (h c).2, Idealize.ShloMosaic.sem_eq_zero_of_no_sems (by decide) r.2⟩)
    (Cert.ReferenceIdeal.Value.run (F := Ideal) m ρ)

/-- The named constant of the idealized kernel is `⊥`. -/
theorem names_bot : Cert.preserves_Kernel_KernelIdeal :=
  IdealRules.named_const.statement _ _ _ _ _ (by simp [Cert.KernelIdeal.κ])

end Cert.Proof

end
-- ==== Proof.Softmax.lean ====
/- Softmax over the extended reals, of scores that are logarithms of real weights: a part of the keys at a time, each
   part with its own maximum, and all keys at once. -/
module

public import Idealize.ShloMosaic.PureOps.Ideal
public import Mathlib.Algebra.BigOperators.Fin

@[expose] public section

noncomputable section

namespace Cert.Softmax

open Idealize.ShloMosaic

/-! ## Sums of extended reals -/

theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- A real factor that is not negative moves into a sum. -/
theorem mul_sum {ι : Type} (S : Finset ι) (x : ℝ) (hx : 0 ≤ x) (f : ι → EReal) : (x : EReal) * ∑ k ∈ S, f k = ∑ k ∈ S, (x : EReal) * f k := by
  classical
  induction S using Finset.induction_on with
  | empty => simp
  | insert a S ha ih =>
    rw [Finset.sum_insert ha, Finset.sum_insert ha,
      EReal.left_distrib_of_nonneg_of_ne_top (EReal.coe_nonneg.mpr hx) (EReal.coe_ne_top _), ih]

theorem div_coe (x : EReal) {y : ℝ} (hy : 0 < y) : Ideal.div x (y : EReal) = x * ((y⁻¹ : ℝ) : EReal) := by
  unfold Ideal.div
  rw [if_neg (by exact_mod_cast hy.ne'), EReal.coe_inv]

theorem block_lt {m n N : ℕ} (hN : N = m * n) (i : Fin m) (j : Fin n) : i.val * n + j.val < N := by
  have h : (i.val + 1) * n ≤ m * n := Nat.mul_le_mul_right n i.isLt
  rw [Nat.succ_mul] at h
  have := j.isLt
  omega

/-- A sum over a row, block by block. -/
theorem sum_blocks {M : Type} [AddCommMonoid M] {N : ℕ} (m n : ℕ) (hN : N = m * n) (f : Fin N → M) :
    ∑ k, f k = ∑ i : Fin m, ∑ j : Fin n, f ⟨i.val * n + j.val, block_lt hN i j⟩ := by
  subst hN
  rw [← Equiv.sum_comp finProdFinEquiv f, Fintype.sum_prod_type]
  refine Finset.sum_congr rfl fun i _ => Finset.sum_congr rfl fun j _ => congrArg f (Fin.ext ?_)
  show j.val + n * i.val = i.val * n + j.val
  ring

/-- The scaled product of a head's query and a key: `b` a sequence, `h` a head, `g` a page, `s` a key of the page. -/
def keyScore (Q : Fin 16 → Fin 16 → Fin 64 → ℝ) (K : Fin 4 × Fin 128 → Fin 16 → Fin 16 → Fin 64 → ℝ) (b h : Fin 16) (g : Fin 4 × Fin 128) (s : Fin 16) : ℝ :=
  (∑ d, Q b h d * K g s h d) * (1 / 8)

/-! ## The two constants -/

theorem low_word : Ideal.ofBits FTy.f32 0xFF800000#32 = ⊥ := by
  simp [Ideal.ofBits, Ideal.ieee]

theorem scale_word : Ideal.ofBits FTy.f32 0x3E000000#32 = ((1 / 8 : ℝ) : EReal) := by
  simp [Ideal.ofBits, Ideal.ieee, -EReal.coe_mul]
  norm_num

/-! ## One part's keys -/

section Part

variable {ι : Type} [Fintype ι]

/-- The maximum of the scores, from −∞. -/
abbrev top (s : ι → EReal) : EReal := Finset.univ.fold max ⊥ s

theorem top_eq_sup (s : ι → EReal) : top s = Finset.univ.sup s := rfl

/-- The score of weight `a` is `log a`. -/
theorem log_coe_zero : Ideal.log ((0 : ℝ) : EReal) = ⊥ := if_pos le_rfl

theorem log_coe_pos {a : ℝ} (h : 0 < a) : Ideal.log (a : EReal) = ((Real.log a : ℝ) : EReal) := if_neg (not_le.mpr h)

theorem exp_bot : Ideal.exp ⊥ = 0 := rfl

theorem exp_coe (r : ℝ) : Ideal.exp (r : EReal) = ((Real.exp r : ℝ) : EReal) := rfl

/-- The exponential of a score's distance from a real number. -/
theorem exp_log_sub {a : ℝ} (ha : 0 ≤ a) (r : ℝ) : Ideal.exp (Ideal.log (a : EReal) - (r : EReal)) = ((Real.exp (-r) * a : ℝ) : EReal) := by
  rcases ha.eq_or_lt with rfl | h
  · rw [log_coe_zero, EReal.bot_sub, exp_bot, mul_zero]; rfl
  · rw [log_coe_pos h, ← EReal.coe_sub, exp_coe, sub_eq_add_neg, Real.exp_add, Real.exp_log h, mul_comm]

/-- The maximum is −∞ where no key has weight, and a real number elsewhere. -/
theorem top_log (a : ι → ℝ) (ha : ∀ k, 0 ≤ a k) :
    (top (fun k => Ideal.log (a k : EReal)) = ⊥ ∧ ∀ k, a k = 0) ∨ ∃ r : ℝ, top (fun k => Ideal.log (a k : EReal)) = (r : EReal) := by
  by_cases h : ∀ k, a k = 0
  · refine .inl ⟨?_, h⟩
    rw [top_eq_sup, Finset.sup_eq_bot_iff]
    intro k _
    rw [h k, log_coe_zero]
  · refine .inr ?_
    push Not at h
    obtain ⟨k₀, hk⟩ := h
    have hpos : 0 < a k₀ := lt_of_le_of_ne (ha k₀) (Ne.symm hk)
    obtain ⟨k, _, hk'⟩ := Finset.exists_mem_eq_sup Finset.univ ⟨k₀, Finset.mem_univ _⟩ (fun k => Ideal.log (a k : EReal))
    rw [top_eq_sup, hk']
    have h1 : ((Real.log (a k₀) : ℝ) : EReal) ≤ Ideal.log (a k : EReal) := by
      rw [← hk', ← log_coe_pos hpos]; exact Finset.le_sup (f := fun k => Ideal.log (a k : EReal)) (Finset.mem_univ k₀)
    rcases (ha k).eq_or_lt with h0 | h0
    · rw [← h0, log_coe_zero] at h1; exact absurd h1 (by simp)
    · exact ⟨_, log_coe_pos h0⟩

/-- A part's own maximum drops out: its exponentials, scaled to another real number. -/
theorem rescale (a : ι → ℝ) (ha : ∀ k, 0 ≤ a k) (g : ℝ) (k : ι) :
    Ideal.exp (top (fun k => Ideal.log (a k : EReal)) - (g : EReal)) * Ideal.exp (Ideal.log (a k : EReal) - top (fun k => Ideal.log (a k : EReal)))
      = ((Real.exp (-g) * a k : ℝ) : EReal) := by
  rcases top_log a ha with ⟨h, h0⟩ | ⟨r, h⟩
  · rw [h, EReal.bot_sub, exp_bot, zero_mul, h0 k, mul_zero]; rfl
  · rw [h, exp_log_sub (ha k), ← EReal.coe_sub, exp_coe, ← EReal.coe_mul, ← mul_assoc, ← Real.exp_add]
    congr 3; ring

theorem rescale_factor (a : ι → ℝ) (ha : ∀ k, 0 ≤ a k) (g : ℝ) :
    ∃ f : ℝ, 0 ≤ f ∧ Ideal.exp (top (fun k => Ideal.log (a k : EReal)) - (g : EReal)) = (f : EReal) := by
  rcases top_log a ha with ⟨h, _⟩ | ⟨r, h⟩
  · exact ⟨0, le_rfl, by rw [h, EReal.bot_sub, exp_bot]; rfl⟩
  · exact ⟨_, (Real.exp_pos (r - g)).le, by rw [h, ← EReal.coe_sub, exp_coe]⟩

/-- A part's weighted sum, scaled. -/
theorem rescale_sum (a : ι → ℝ) (ha : ∀ k, 0 ≤ a k) (g : ℝ) (v : ι → EReal) :
    Ideal.exp (top (fun k => Ideal.log (a k : EReal)) - (g : EReal))
        * ∑ k, Ideal.exp (Ideal.log (a k : EReal) - top (fun k => Ideal.log (a k : EReal))) * v k
      = ∑ k, ((Real.exp (-g) * a k : ℝ) : EReal) * v k := by
  obtain ⟨f, hf, hff⟩ := rescale_factor a ha g
  rw [hff, mul_sum _ _ hf]
  refine Finset.sum_congr rfl fun k _ => ?_
  rw [← mul_assoc, ← hff, rescale a ha g k]

/-- All keys at once: the softmax of the scores, against the values. -/
theorem whole (a : ι → ℝ) (ha : ∀ k, 0 ≤ a k) (hA : 0 < ∑ k, a k) (v : ι → EReal) :
    ∑ k, v k * Ideal.div (Ideal.exp (Ideal.log (a k : EReal) - top (fun k => Ideal.log (a k : EReal))))
        (∑ k, Ideal.exp (Ideal.log (a k : EReal) - top (fun k => Ideal.log (a k : EReal))))
      = ∑ k, ((a k / ∑ k, a k : ℝ) : EReal) * v k := by
  rcases top_log a ha with ⟨_, h0⟩ | ⟨r, h⟩
  · simp [h0] at hA
  · have hr := Real.exp_pos (-r)
    have hs : ∑ k, Ideal.exp (Ideal.log (a k : EReal) - (r : EReal)) = ((Real.exp (-r) * ∑ k, a k : ℝ) : EReal) := by
      rw [Finset.mul_sum, coe_sum]
      exact Finset.sum_congr rfl fun k _ => exp_log_sub (ha k) r
    rw [h, hs]
    refine Finset.sum_congr rfl fun k _ => ?_
    rw [exp_log_sub (ha k), div_coe _ (mul_pos hr hA), ← EReal.coe_mul, mul_comm]
    congr 2
    field_simp

end Part

/-! ## The four parts together -/

section Parts

variable {ι : Type} [Fintype ι] (a : Fin 4 → ι → ℝ) (v : Fin 4 → ι → EReal)

/-- What a part sends: its maximum, the sum of its exponentials, and their sum against the values. -/
abbrev pm (c : Fin 4) : EReal := top (fun k => Ideal.log (a c k : EReal))
abbrev pl (c : Fin 4) : EReal := ∑ k, Ideal.exp (Ideal.log (a c k : EReal) - pm a c)
abbrev po (c : Fin 4) : EReal := ∑ k, Ideal.exp (Ideal.log (a c k : EReal) - pm a c) * v c k
abbrev gmax (c : Fin 4) : EReal := max (max (max (pm a c) (pm a (c + 1))) (pm a (c + 2))) (pm a (c + 3))

theorem sum_turn {M : Type} [AddCommMonoid M] (f : Fin 4 → M) (c : Fin 4) : f c + f (c + 1) + f (c + 2) + f (c + 3) = ∑ d, f d := by
  rw [← Fintype.sum_equiv (Equiv.addLeft c) (fun d => f (c + d)) f (fun _ => rfl), Fin.sum_univ_four, add_zero]

theorem le_gmax (c d : Fin 4) : pm a d ≤ gmax a c := by
  have : d = c ∨ d = c + 1 ∨ d = c + 2 ∨ d = c + 3 := by revert c d; decide
  rcases this with h | h | h | h <;> subst h <;> simp [gmax]

theorem gmax_real (ha : ∀ c k, 0 ≤ a c k) (hA : 0 < ∑ c, ∑ k, a c k) (c : Fin 4) : ∃ g : ℝ, gmax a c = (g : EReal) := by
  have hne : gmax a c ≠ ⊥ := by
    intro h
    have : ∀ d k, a d k = 0 := fun d k => by
      rcases top_log (a d) (ha d) with ⟨_, h0⟩ | ⟨r, hr⟩
      · exact h0 k
      · have := le_gmax a c d
        rw [h, pm, hr] at this
        exact absurd this (by simp)
    simp [this] at hA
  have hnt : ∀ d, pm a d ≠ ⊤ := fun d => by
    rcases top_log (a d) (ha d) with ⟨h, _⟩ | ⟨r, h⟩ <;> rw [pm, h] <;> simp
  have hnt' : gmax a c ≠ ⊤ := by
    have h4 : ∀ x y : EReal, x ≠ ⊤ → y ≠ ⊤ → max x y ≠ ⊤ := fun x y hx hy => by
      rcases max_choice x y with h | h <;> rw [h] <;> assumption
    exact h4 _ _ (h4 _ _ (h4 _ _ (hnt _) (hnt _)) (hnt _)) (hnt _)
  exact ⟨_, (EReal.coe_toReal hnt' hne).symm⟩

/-- The combined parts are the softmax over all keys, against the values. -/
theorem combined (ha : ∀ c k, 0 ≤ a c k) (hA : 0 < ∑ c, ∑ k, a c k) (c : Fin 4) :
    Ideal.div
        (Ideal.exp (pm a c - gmax a c) * po a v c + Ideal.exp (pm a (c + 1) - gmax a c) * po a v (c + 1)
          + Ideal.exp (pm a (c + 2) - gmax a c) * po a v (c + 2) + Ideal.exp (pm a (c + 3) - gmax a c) * po a v (c + 3))
        (Ideal.exp (pm a c - gmax a c) * pl a c + Ideal.exp (pm a (c + 1) - gmax a c) * pl a (c + 1)
          + Ideal.exp (pm a (c + 2) - gmax a c) * pl a (c + 2) + Ideal.exp (pm a (c + 3) - gmax a c) * pl a (c + 3))
      = ∑ d, ∑ k, ((a d k / ∑ c, ∑ k, a c k : ℝ) : EReal) * v d k := by
  obtain ⟨g, hg⟩ := gmax_real a ha hA c
  have hr := Real.exp_pos (-g)
  rw [hg, sum_turn (fun d => Ideal.exp (pm a d - (g : EReal)) * po a v d) c, sum_turn (fun d => Ideal.exp (pm a d - (g : EReal)) * pl a d) c]
  have ho : ∀ d, Ideal.exp (pm a d - (g : EReal)) * po a v d = ∑ k, ((Real.exp (-g) * a d k : ℝ) : EReal) * v d k :=
    fun d => rescale_sum (a d) (ha d) g (v d)
  have hl : ∀ d, Ideal.exp (pm a d - (g : EReal)) * pl a d = ((∑ k, Real.exp (-g) * a d k : ℝ) : EReal) := fun d => by
    have h := rescale_sum (a d) (ha d) g (fun _ => 1)
    simp only [mul_one] at h
    rw [coe_sum]; exact h
  have hL : ∑ d, Ideal.exp (pm a d - (g : EReal)) * pl a d = ((Real.exp (-g) * ∑ c, ∑ k, a c k : ℝ) : EReal) := by
    rw [Finset.sum_congr rfl fun d _ => hl d, ← coe_sum, Finset.mul_sum]
    simp only [Finset.mul_sum]
  have hO : ∑ d, Ideal.exp (pm a d - (g : EReal)) * po a v d = ∑ d, ∑ k, ((Real.exp (-g) * a d k : ℝ) : EReal) * v d k :=
    Finset.sum_congr rfl fun d _ => ho d
  rw [hL, hO, div_coe _ (mul_pos hr hA), mul_comm, mul_sum _ _ (inv_nonneg.mpr (mul_pos hr hA).le)]
  refine Finset.sum_congr rfl fun d _ => ?_
  rw [mul_sum _ _ (inv_nonneg.mpr (mul_pos hr hA).le)]
  refine Finset.sum_congr rfl fun k _ => ?_
  rw [← mul_assoc, ← EReal.coe_mul]
  congr 2
  field_simp

end Parts

/-! ## Keys counted by page -/

section Pages

variable {J G : Type} [Fintype J] [Fintype G] [DecidableEq G] (live : J → Prop) [DecidablePred live] (pg : J → G)

/-- How often the table lists a page. -/
def count (g : G) : ℕ := (Finset.univ.filter fun j => live j ∧ pg j = g).card

/-- A sum over the listed pages, page by page. -/
theorem sum_pages {M : Type} [AddCommMonoid M] (f : G → M) : ∑ j, (if live j then f (pg j) else 0) = ∑ g, count live pg g • f g := by
  have h : ∀ j, (if live j then f (pg j) else 0) = ∑ g, if live j ∧ pg j = g then f g else 0 := fun j => by
    by_cases hj : live j
    · simp [hj]
    · simp [hj]
  rw [Finset.sum_congr rfl fun j _ => h j, Finset.sum_comm]
  refine Finset.sum_congr rfl fun g _ => ?_
  rw [← Finset.sum_filter, Finset.sum_const, count]

/-- The weights of the listed keys and of the pages' keys have one sum. -/
theorem total {S : Type} [Fintype S] (e : G → S → ℝ) :
    ∑ j, ∑ s, (if live j then e (pg j) s else 0) = ∑ g, ∑ s, (count live pg g * e g s : ℝ) := by
  refine Finset.sum_comm.trans ((Finset.sum_congr rfl fun s _ => ?_).trans Finset.sum_comm)
  rw [sum_pages live pg (fun g => e g s)]
  simp only [nsmul_eq_mul]

/-- The softmax over the listed keys is the softmax over the pages' keys, each weighted by its page's count. -/
theorem by_page {S : Type} [Fintype S] (e : G → S → ℝ) (he : ∀ g s, 0 ≤ e g s) (v : G → S → EReal) :
    ∑ j, ∑ s, (((if live j then e (pg j) s else 0) / ∑ j, ∑ s, (if live j then e (pg j) s else 0) : ℝ) : EReal) * v (pg j) s
      = ∑ g, ∑ s, (((count live pg g * e g s) / ∑ g, ∑ s, (count live pg g * e g s) : ℝ) : EReal) * v g s := by
  rw [total live pg e]
  generalize ∑ g, ∑ s, (count live pg g * e g s : ℝ) = A at *
  refine Finset.sum_comm.trans ((Finset.sum_congr rfl fun s _ => ?_).trans Finset.sum_comm)
  have h : ∀ j, (((if live j then e (pg j) s else 0) / A : ℝ) : EReal) * v (pg j) s = if live j then ((e (pg j) s / A : ℝ) : EReal) * v (pg j) s else 0 := fun j => by
    by_cases hj : live j
    · simp only [if_pos hj]
    · simp only [if_neg hj, zero_div, EReal.coe_zero, zero_mul]
  rw [Finset.sum_congr rfl fun j _ => h j, sum_pages live pg (fun g => ((e g s / A : ℝ) : EReal) * v g s)]
  refine Finset.sum_congr rfl fun g _ => ?_
  rw [EReal.nsmul_eq_mul, ← mul_assoc, mul_div_assoc, EReal.coe_mul]
  rfl

end Pages

end Cert.Softmax

end
-- ==== Proof.IdealWeights.lean ====
/- The weights a device gives its pages: how often a sequence's table lists each of them. -/
module

public import proofs.«01_k».proof.Proof.IdealTables
public import proofs.«01_k».proof.Proof.Softmax
public import Idealize.ShloMosaic.Lib.Pointwise
public import Idealize.ShloMosaic.PureOps.IdealRules

@[expose] public section

set_option maxRecDepth 16384

noncomputable section

namespace Cert.KernelIdeal.Talk

open Cert.KernelIdeal Cert.KernelIdeal.Gen
open Idealize.ShloMosaic Idealize.ShloMosaic.TcCoe

/-! ## Words -/

/-- A bit, widened and read as a number, is an indicator. -/
theorem ind (x : BitVec 1) : FloatOps.sitofp (F := Ideal) .f32 (x.setWidth 32) = if x = 1#1 then ((1 : ℝ) : EReal) else ((0 : ℝ) : EReal) := by
  have h : x = 0#1 ∨ x = 1#1 := by revert x; decide
  rcases h with rfl | rfl
  · show (((BitVec.toInt (BitVec.setWidth 32 0#1) : ℤ) : ℝ) : EReal) = _
    simp
  · show (((BitVec.toInt (BitVec.setWidth 32 1#1) : ℤ) : ℝ) : EReal) = _
    simp

theorem cmpi_eq_one {w : ℕ} (x y : BitVec w) : IntOp.cmpi .eq x y = 1#1 ↔ x = y := by
  show (bif x == y then 1#1 else 0#1) = 1#1 ↔ x = y
  by_cases h : x = y
  · subst h; simp
  · rw [beq_eq_false_iff_ne.mpr h]; simp [h]

theorem ofNat_inj {x y : ℕ} (hx : x < 4096) (hy : y < 4096) : BitVec.ofNat 32 x = BitVec.ofNat 32 y ↔ x = y := by
  constructor
  · intro h
    have := congrArg BitVec.toNat h
    simp only [BitVec.toNat_ofNat] at this
    omega
  · rintro rfl; rfl

/-- The remainder by 128 of a column's number, as the program computes it. -/
theorem mod128 (k : Fin 2048) : Scalar.select (IntOp.andi
                      (IntOp.xori
                        (IntOp.cmpi CmpIPredicate.slt
                          (IntOp.remsi ArithUnit.vector (BitVec.ofNat 32 k.val)
                            (Scalar.select (Scalar.cmpi CmpIPredicate.eq 128#32 0#32) 1#32 128#32))
                          0#32)
                        (Scalar.cmpi CmpIPredicate.slt
                          (Scalar.select (Scalar.cmpi CmpIPredicate.eq 128#32 0#32) 1#32 128#32) 0#32))
                      (IntOp.cmpi CmpIPredicate.ne
                        (IntOp.remsi ArithUnit.vector (BitVec.ofNat 32 k.val)
                          (Scalar.select (Scalar.cmpi CmpIPredicate.eq 128#32 0#32) 1#32 128#32))
                        0#32))
                    (IntOp.addi
                      (IntOp.remsi ArithUnit.vector (BitVec.ofNat 32 k.val)
                        (Scalar.select (Scalar.cmpi CmpIPredicate.eq 128#32 0#32) 1#32 128#32))
                      (Scalar.select (Scalar.cmpi CmpIPredicate.eq 128#32 0#32) 1#32 128#32))
                    (IntOp.remsi ArithUnit.vector (BitVec.ofNat 32 k.val)
                      (Scalar.select (Scalar.cmpi CmpIPredicate.eq 128#32 0#32) 1#32 128#32)) = BitVec.ofNat 32 (k.val % 128) := by
  revert k; decide +kernel

/-- The remainder by 64 of a lane's number, as the program computes it. -/
theorem mod64 (k : Fin 1024) : Scalar.select
                (IntOp.andi
                  (IntOp.xori
                    (IntOp.cmpi CmpIPredicate.slt
                      (IntOp.remsi ArithUnit.vector (BitVec.ofNat 32 k.val)
                        (Scalar.select (Scalar.cmpi CmpIPredicate.eq 64#32 0#32) 1#32 64#32))
                      0#32)
                    (Scalar.cmpi CmpIPredicate.slt (Scalar.select (Scalar.cmpi CmpIPredicate.eq 64#32 0#32) 1#32 64#32)
                      0#32))
                  (IntOp.cmpi CmpIPredicate.ne
                    (IntOp.remsi ArithUnit.vector (BitVec.ofNat 32 k.val)
                      (Scalar.select (Scalar.cmpi CmpIPredicate.eq 64#32 0#32) 1#32 64#32))
                    0#32))
                (IntOp.addi
                  (IntOp.remsi ArithUnit.vector (BitVec.ofNat 32 k.val)
                    (Scalar.select (Scalar.cmpi CmpIPredicate.eq 64#32 0#32) 1#32 64#32))
                  (Scalar.select (Scalar.cmpi CmpIPredicate.eq 64#32 0#32) 1#32 64#32))
                (IntOp.remsi ArithUnit.vector (BitVec.ofNat 32 k.val)
                  (Scalar.select (Scalar.cmpi CmpIPredicate.eq 64#32 0#32) 1#32 64#32)) = BitVec.ofNat 32 (k.val % 64) := by
  revert k; decide +kernel

/-- The quotient by 64 of a lane's number, as the program computes it. -/
theorem div64 (k : Fin 1024) : Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 k.val) 64#32) 0#32))
          (IntOp.subi (IntOp.divsi ArithUnit.vector (BitVec.ofNat 32 k.val) 64#32) 1#32)
          (IntOp.divsi ArithUnit.vector (BitVec.ofNat 32 k.val) 64#32) = BitVec.ofNat 32 (k.val / 64) := by
  revert k; decide +kernel

/-! ## How often a page is listed -/

/-- Slot `j` of sequence `b` names the device's page `p`, and is in use. -/
def Hit (bt : IVec S16x128 32) (ln : IVec S16x1 32) (c : Dev nD) (b : Fin 16) (p : Fin 128) (j : Fin 128) : Prop :=
  bt (ix2 b j) = IntOp.addi (BitVec.ofNat 32 p.val) (Scalar.muli (myOf c) 128#32) ∧ IntOp.cmpi .slt (BitVec.ofNat 32 j.val) (ln (ix2 b (0 : Fin 1))) = 1#1

instance (bt : IVec S16x128 32) (ln : IVec S16x1 32) (c : Dev nD) (b : Fin 16) (p : Fin 128) : DecidablePred (Hit bt ln c b p) :=
  fun _ => inferInstanceAs (Decidable (_ ∧ _))

def hits (bt : IVec S16x128 32) (ln : IVec S16x1 32) (c : Dev nD) (b : Fin 16) (p : Fin 128) : ℕ := (Finset.univ.filter (Hit bt ln c b p)).card

theorem andi_eq_one (x y : BitVec 1) : IntOp.andi x y = 1#1 ↔ x = 1#1 ∧ y = 1#1 := by revert x y; decide

theorem sum_hits (bt : IVec S16x128 32) (ln : IVec S16x1 32) (c : Dev nD) (b : Fin 16) (p : Fin 128) :
    ∑ j : Fin 128, (if IntOp.andi (IntOp.cmpi .eq (bt (ix2 b j)) (IntOp.addi (BitVec.ofNat 32 p.val) (Scalar.muli (myOf c) 128#32)))
        (IntOp.cmpi .slt (BitVec.ofNat 32 j.val) (ln (ix2 b (0 : Fin 1)))) = 1#1 then ((1 : ℝ) : EReal) else ((0 : ℝ) : EReal)) = ((hits bt ln c b p : ℝ) : EReal) := by
  have h : ∀ j : Fin 128, (if IntOp.andi (IntOp.cmpi .eq (bt (ix2 b j)) (IntOp.addi (BitVec.ofNat 32 p.val) (Scalar.muli (myOf c) 128#32)))
        (IntOp.cmpi .slt (BitVec.ofNat 32 j.val) (ln (ix2 b (0 : Fin 1)))) = 1#1 then ((1 : ℝ) : EReal) else ((0 : ℝ) : EReal))
      = ((if Hit bt ln c b p j then (1 : ℝ) else 0 : ℝ) : EReal) := fun j => by
    have hiff : IntOp.andi (IntOp.cmpi .eq (bt (ix2 b j)) (IntOp.addi (BitVec.ofNat 32 p.val) (Scalar.muli (myOf c) 128#32)))
        (IntOp.cmpi .slt (BitVec.ofNat 32 j.val) (ln (ix2 b (0 : Fin 1)))) = 1#1 ↔ Hit bt ln c b p j := by
      rw [andi_eq_one, cmpi_eq_one]; rfl
    by_cases hj : Hit bt ln c b p j
    · rw [if_pos hj, if_pos (hiff.mpr hj)]
    · rw [if_neg hj, if_neg (fun h => hj (hiff.mp h))]
  rw [Finset.sum_congr rfl fun j _ => h j, ← Cert.Softmax.coe_sum, Finset.sum_boole]
  rfl

theorem tabW_apply (bt : IVec S16x128 32) (ln : IVec S16x1 32) (c : Dev nD) (b : Fin 16) (k : Fin 2048) :
    tabW (F := Ideal) bt ln c (ix2 b k) = Ideal.log ((hits bt ln c b ⟨k.val % 128, Nat.mod_lt _ (by decide)⟩ : ℝ) : EReal) := by
  pointwise [tabW, k0_pay2, k0_pay1]
  simp only [mod128, ind, sum_hits]
  have hs : ∀ (f : Fin 128 → ℝ), (∑ x : Fin 128, (f x : EReal) * (if IntOp.cmpi .eq (BitVec.ofNat 32 (k.val % 128)) (BitVec.ofNat 32 x.val) = 1#1 then ((1 : ℝ) : EReal) else ((0 : ℝ) : EReal)))
      = (f ⟨k.val % 128, Nat.mod_lt _ (by decide)⟩ : EReal) := fun f => by
    rw [Finset.sum_eq_single (⟨k.val % 128, Nat.mod_lt _ (by decide)⟩ : Fin 128)]
    · rw [if_pos ((cmpi_eq_one _ _).mpr rfl)]; simp
    · intro x _ hx
      rw [if_neg]
      · simp
      · rw [cmpi_eq_one, ofNat_inj (by omega) (by omega)]
        intro h; exact hx (Fin.ext h.symm)
    · intro h; exact absurd (Finset.mem_univ _) h
  rw [hs (fun x => (hits bt ln c b x : ℝ)), IdealRules.named_const.ideal_named_scalar κ "neg" _ ⊥ (by simp [κ])]
  rcases Nat.eq_zero_or_pos (hits bt ln c b ⟨k.val % 128, Nat.mod_lt _ (by decide)⟩) with h | h
  · rw [h, Nat.cast_zero, Cert.Softmax.log_coe_zero, if_neg (by simp)]
  · rw [if_pos (by exact_mod_cast h)]

end Cert.KernelIdeal.Talk

end
-- ==== Proof.IdealScores.lean ====
/- The products of queries and keys that a device computes, and its weighted sums of values, read at an index. -/
module

public import proofs.«01_k».proof.Proof.IdealWeights
public import Idealize.ShloMosaic.Lib.Pipeline.Value

@[expose] public section

set_option maxRecDepth 16384

noncomputable section

namespace Cert.KernelIdeal.Talk

open Cert.KernelIdeal Cert.KernelIdeal.Gen
open Idealize.ShloMosaic Idealize.ShloMosaic.TcCoe

/-! ## Queries against keys -/

/-- The queries, one row per head and sequence, each in its own head's lanes. -/
theorem queries_apply (q : FVec Ideal S16x1x16x64 .f32) (r : Fin 256) (x : Fin 1024) :
    (k0_pay6 (F := Ideal) (k0_pay3 q) laneIota 64#32 k0_pay4) (ix2 r x)
      = if x.val / 64 = r.val / 16 then q (ix4 ⟨r.val % 16, Nat.mod_lt _ (by decide)⟩ (0 : Fin 1) ⟨x.val / 64, by omega⟩ ⟨x.val % 64, Nat.mod_lt _ (by decide)⟩) else 0 := by
  pointwise [k0_pay6, k0_pay3, k0_pay4, k0_pay5]
  rw [div64]
  show (if _ = 1#1 then _ else _) = _
  simp only [cmpi_eq_one, ofNat_inj (show x.val / 64 < 4096 by omega) (show r.val / 16 < 4096 by omega)]

theorem slices_keys (n : Fin 16) : S16x1024x128.Slices ![n.val, 0, 0] S1x1024x128 := by revert n; decide

/-- The products of the queries with one slot's keys. -/
def piece (qm : FVec Ideal S256x1024 .bf16) (kb : FVec Ideal S16x1024x128 .bf16) (n : Fin 16) : FVec Ideal S256x128 .f32 :=
  matmul dot_S256x1024_S1024x128_S256x128_1_0_0_1_n_n none qm
    (shapeCast S1024x128 (extractStridedSlice S1x1024x128 ![n.val, 0, 0] kb (slices_keys n)) shapeCasts_S1x1024x128_S1024x128)
    (constant S256x128 .f32 0x00000000#32)

theorem piece_apply (qm : FVec Ideal S256x1024 .bf16) (kb : FVec Ideal S16x1024x128 .bf16) (n : Fin 16) (r : Fin 256) (p : Fin 128) :
    piece qm kb n (ix2 r p) = ∑ x : Fin 1024, qm (ix2 r x) * kb (ix3 n x p) := by
  pointwise [piece]

theorem tabS_apply (q : FVec Ideal S16x1x16x64 .f32) (kt : FVec Ideal S16x16x64x128 .f32) (r : Fin 256) (k : Fin 2048) :
    tabS (F := Ideal) q kt (ix2 r k)
      = piece (k0_pay6 (k0_pay3 q) laneIota 64#32 k0_pay4) (k0_pay7 kt) ⟨k.val / 128, by omega⟩ (ix2 r ⟨k.val % 128, Nat.mod_lt _ (by decide)⟩)
          * Ideal.ofBits .f32 0x3E000000#32 := by
  unfold tabS k0_pay11
  refine congrArg (· * Ideal.ofBits .f32 0x3E000000#32) ?_
  exact concatenate_ofFn_apply (t := S256x2048) (s₁ := S256x128) 1
    (fun n : Fin 16 => piece (k0_pay6 (k0_pay3 q) laneIota 64#32 k0_pay4) (k0_pay7 kt) n) _ rfl 128 rfl (ix2 r k)
    ⟨k.val / 128, by omega⟩ rfl (ix2 r ⟨k.val % 128, Nat.mod_lt _ (by decide)⟩) rfl fun a ha => match a, ha with
      | ⟨0, _⟩, _ => rfl
      | ⟨1, _⟩, ha => absurd rfl ha

/-- The sum over all lanes of a masked row is the sum over one head's lanes. -/
theorem sum_head (h : Fin 16) (f : Fin 1024 → EReal) (hf : ∀ x, x.val / 64 ≠ h.val → f x = 0) :
    ∑ x, f x = ∑ d : Fin 64, f ⟨h.val * 64 + d.val, by omega⟩ := by
  refine (Finset.sum_of_injOn (fun d : Fin 64 => (⟨h.val * 64 + d.val, by omega⟩ : Fin 1024)) ?_ ?_ ?_ ?_).symm
  · intro a _ b _ hab
    have := congrArg Fin.val hab
    exact Fin.ext (by simpa using this)
  · intro a _; exact Finset.mem_coe.mpr (Finset.mem_univ _)
  · intro x _ hx
    refine hf x fun hh => hx ⟨⟨x.val % 64, Nat.mod_lt _ (by decide)⟩, Finset.mem_coe.mpr (Finset.mem_univ _), Fin.ext ?_⟩
    show h.val * 64 + x.val % 64 = x.val
    omega
  · intro d _; rfl

theorem keys_apply (kt : FVec Ideal S16x16x64x128 .f32) (n : Fin 16) (x : Fin 1024) (p : Fin 128) :
    k0_pay7 (F := Ideal) kt (ix3 n x p) = kt (ix4 n ⟨x.val / 64, by omega⟩ ⟨x.val % 64, Nat.mod_lt _ (by decide)⟩ p) := by
  pointwise [k0_pay7]

/-- A scaled product: head `r / 16`, sequence `r % 16`, slot `k / 128`, page `k % 128`. -/
theorem score_apply (q : FVec Ideal S16x1x16x64 .f32) (kt : FVec Ideal S16x16x64x128 .f32) (r : Fin 256) (k : Fin 2048) :
    tabS (F := Ideal) q kt (ix2 r k)
      = (∑ d : Fin 64, q (ix4 ⟨r.val % 16, Nat.mod_lt _ (by decide)⟩ (0 : Fin 1) ⟨r.val / 16, by omega⟩ d)
          * kt (ix4 ⟨k.val / 128, by omega⟩ ⟨r.val / 16, by omega⟩ d ⟨k.val % 128, Nat.mod_lt _ (by decide)⟩)) * Ideal.ofBits .f32 0x3E000000#32 := by
  rw [tabS_apply, piece_apply, sum_head ⟨r.val / 16, by omega⟩]
  · refine congrArg (· * _) (Finset.sum_congr rfl fun d _ => ?_)
    have h1 : (r.val / 16 * 64 + d.val) / 64 = r.val / 16 := by omega
    have h2 : (r.val / 16 * 64 + d.val) % 64 = d.val := by omega
    rw [queries_apply, if_pos h1, keys_apply]
    simp only [h1, h2]
  · intro x hx
    rw [queries_apply, if_neg hx, zero_mul]

/-! ## Weighted sums of values -/

theorem slices_row (n : Fin 16) : S256x2048.Slices ![0, n.val * 128] S256x128 := by revert n; decide

/-- One slot's share of the weighted sums. -/
def share (e : FVec Ideal S256x2048 .bf16) (vb : FVec Ideal S16x1024x128 .bf16) (n : Fin 16) : FVec Ideal S256x1024 .f32 :=
  matmul dot_S256x128_S1024x128_S256x1024_1_1_0_0_n_n none
    (extractStridedSlice S256x128 ![0, n.val * 128] e (slices_row n))
    (shapeCast S1024x128 (extractStridedSlice S1x1024x128 ![n.val, 0, 0] vb (slices_keys n)) shapeCasts_S1x1024x128_S1024x128)
    (constant S256x1024 .f32 0x00000000#32)

theorem share_apply (e : FVec Ideal S256x2048 .bf16) (vb : FVec Ideal S16x1024x128 .bf16) (n : Fin 16) (r : Fin 256) (x : Fin 1024) :
    share e vb n (ix2 r x) = ∑ p : Fin 128, e (ix2 r ⟨n.val * 128 + p.val, by omega⟩) * vb (ix3 n x p) := by
  pointwise [share]

/-- The rows' exponentials. -/
def tabE (q : FVec Ideal S16x1x16x64 .f32) (bt : IVec S16x128 32) (ln : IVec S16x1 32) (kt : FVec Ideal S16x16x64x128 .f32) (c : Dev nD) :
    FVec Ideal S256x2048 .f32 := k0_pay15 (tabS q kt) (k0_pay12 (tabW bt ln c))

theorem tabA_apply (q : FVec Ideal S16x1x16x64 .f32) (bt : IVec S16x128 32) (ln : IVec S16x1 32) (kt vt : FVec Ideal S16x16x64x128 .f32) (c : Dev nD)
    (i : S256x1024.Idx) :
    tabA (F := Ideal) q bt ln kt vt c i + k0_pay22 (k0_pay17 (tabS q kt) (k0_pay12 (tabW bt ln c))) (k0_pay18 vt) i
      = ∑ n : Fin 16, share (tabE q bt ln kt c) (k0_pay7 vt) n i := by
  have h : tabA (F := Ideal) q bt ln kt vt c i
      = Ideal.ofBits .f32 0x00000000#32 + share (tabE q bt ln kt c) (k0_pay7 vt) 0 i + share (tabE q bt ln kt c) (k0_pay7 vt) 1 i
        + share (tabE q bt ln kt c) (k0_pay7 vt) 2 i + share (tabE q bt ln kt c) (k0_pay7 vt) 3 i + share (tabE q bt ln kt c) (k0_pay7 vt) 4 i
        + share (tabE q bt ln kt c) (k0_pay7 vt) 5 i + share (tabE q bt ln kt c) (k0_pay7 vt) 6 i + share (tabE q bt ln kt c) (k0_pay7 vt) 7 i
        + share (tabE q bt ln kt c) (k0_pay7 vt) 8 i + share (tabE q bt ln kt c) (k0_pay7 vt) 9 i + share (tabE q bt ln kt c) (k0_pay7 vt) 10 i
        + share (tabE q bt ln kt c) (k0_pay7 vt) 11 i + share (tabE q bt ln kt c) (k0_pay7 vt) 12 i + share (tabE q bt ln kt c) (k0_pay7 vt) 13 i
        + share (tabE q bt ln kt c) (k0_pay7 vt) 14 i := rfl
  have h' : k0_pay22 (F := Ideal) (k0_pay17 (tabS q kt) (k0_pay12 (tabW bt ln c))) (k0_pay18 vt) i = share (tabE q bt ln kt c) (k0_pay7 vt) 15 i := rfl
  rw [h, h', Ideal.ofBits_zero, zero_add]
  simp only [Fin.sum_univ_castSucc, Fin.sum_univ_zero, zero_add]
  rfl

/-- A weighted sum of values: head `r / 16`, sequence `r % 16`, coordinate `d`. -/
theorem tabO_apply (q : FVec Ideal S16x1x16x64 .f32) (bt : IVec S16x128 32) (ln : IVec S16x1 32) (kt vt : FVec Ideal S16x16x64x128 .f32) (c : Dev nD)
    (r : Fin 256) (d : Fin 64) :
    tabO (F := Ideal) q bt ln kt vt c (ix2 r d)
      = ∑ n : Fin 16, ∑ p : Fin 128, tabE q bt ln kt c (ix2 r ⟨n.val * 128 + p.val, by omega⟩) * vt (ix4 n ⟨r.val / 16, by omega⟩ d p) := by
  have hA := tabA_apply q bt ln kt vt c
  revert hA
  unfold tabO
  generalize tabA (F := Ideal) q bt ln kt vt c = A
  generalize k0_pay22 (F := Ideal) (k0_pay17 (tabS q kt) (k0_pay12 (tabW bt ln c))) (k0_pay18 vt) = B
  intro hA
  pointwise [k0_pay23, k0_pay5, k0_pay4]
  simp only [mod64, div64, ind, hA]
  rw [Finset.sum_eq_single (⟨r.val / 16 * 64 + d.val, by omega⟩ : Fin 1024)]
  · have h1 : (r.val / 16 * 64 + d.val) / 64 = r.val / 16 := by omega
    have h2 : (r.val / 16 * 64 + d.val) % 64 = d.val := by omega
    rw [if_pos ((cmpi_eq_one _ _).mpr (by rw [h1])), if_pos ((cmpi_eq_one _ _).mpr (by rw [h2])), EReal.coe_one, mul_one, mul_one]
    refine Finset.sum_congr rfl fun n _ => ?_
    rw [share_apply]
    refine Finset.sum_congr rfl fun p _ => ?_
    rw [keys_apply]
    simp only [h1, h2]
  · intro x _ hx
    by_cases h1 : x.val / 64 = r.val / 16
    · rw [if_neg (c := IntOp.cmpi CmpIPredicate.eq (BitVec.ofNat 32 (x.val % 64)) (BitVec.ofNat 32 d.val) = 1#1), EReal.coe_zero, mul_zero]
      rw [cmpi_eq_one, ofNat_inj (by omega) (by omega)]
      intro h2
      refine hx (Fin.ext ?_)
      show x.val = r.val / 16 * 64 + d.val
      omega
    · rw [if_neg (c := IntOp.cmpi CmpIPredicate.eq (BitVec.ofNat 32 (x.val / 64)) (BitVec.ofNat 32 (r.val / 16)) = 1#1), EReal.coe_zero, mul_zero, zero_mul]
      rw [cmpi_eq_one, ofNat_inj (by omega) (by omega)]
      exact h1
  · intro h; exact absurd (Finset.mem_univ _) h

end Cert.KernelIdeal.Talk

end
-- ==== Proof.IdealRows.lean ====
/- A device's tables and the combination of the four devices' tables, in terms of the scores. -/
module

public import proofs.«01_k».proof.Proof.IdealScores

@[expose] public section

set_option maxRecDepth 16384

noncomputable section

namespace Cert.KernelIdeal.Talk

open Cert.KernelIdeal Cert.KernelIdeal.Gen Cert.Softmax
open Idealize.ShloMosaic Idealize.ShloMosaic.TcCoe

/-- A row's exponentials: the distances from its maximum. -/
theorem exp_rows (s : FVec Ideal S256x2048 .f32) (w : FVec Ideal S16x2048 .f32) (r : Fin 256) (k : Fin 2048) :
    k0_pay15 (F := Ideal) s (k0_pay12 w) (ix2 r k)
      = Ideal.exp (s (ix2 r k) + w (ix2 ⟨r.val % 16, Nat.mod_lt _ (by decide)⟩ k) - k0_pay14 s (k0_pay12 w) (ix2 r (0 : Fin 1))) := by
  pointwise [k0_pay15, k0_pay13, k0_pay12]

section Row

variable (q : FVec Ideal S16x1x16x64 .f32) (bt : IVec S16x128 32) (ln : IVec S16x1 32) (kt vt : FVec Ideal S16x16x64x128 .f32) (c : Dev nD)
variable (r : Fin 256)

/-- Row `r`'s scores: the scaled product, plus the logarithm of the page's count. -/
def scores (k : Fin 2048) : EReal :=
  tabS (F := Ideal) q kt (ix2 r k) + Ideal.log ((hits bt ln c ⟨r.val % 16, Nat.mod_lt _ (by decide)⟩ ⟨k.val % 128, Nat.mod_lt _ (by decide)⟩ : ℝ) : EReal)

theorem tabM_apply : tabM (F := Ideal) q bt ln kt c (ix2 r (0 : Fin 1)) = top (scores q bt ln kt c r) := by
  unfold tabM
  pointwise [k0_pay14, k0_pay13, k0_pay12]
  simp only [tabW_apply, low_word]
  rfl

theorem tabE_apply (k : Fin 2048) : tabE q bt ln kt c (ix2 r k) = Ideal.exp (scores q bt ln kt c r k - top (scores q bt ln kt c r)) := by
  rw [← tabM_apply]
  unfold tabE tabM scores
  rw [exp_rows, tabW_apply]

theorem tabL_apply : tabL (F := Ideal) q bt ln kt c (ix2 r (0 : Fin 1)) = ∑ k, Ideal.exp (scores q bt ln kt c r k - top (scores q bt ln kt c r)) := by
  have h : tabL (F := Ideal) q bt ln kt c (ix2 r (0 : Fin 1)) = ∑ k, tabE q bt ln kt c (ix2 r k) := by
    unfold tabL k0_pay16
    show shapeCast S256x1 (multiReduction .add [1] S256 (tabE q bt ln kt c) 0x00000000#32 reduces_S256x2048_S256 (.inl rfl) rfl) shapeCasts_S256_S256x1 _ = _
    pointwise []
  rw [h]
  exact Finset.sum_congr rfl fun k _ => tabE_apply q bt ln kt c r k

end Row

/-- The row of head `h` and sequence `b`. -/
def at' (b h : Fin 16) : Fin 256 := ⟨h.val * 16 + b.val, by omega⟩

section Comb

variable (tO : Dev nD → FVec Ideal S256x64 .f32) (tM tL : Dev nD → FVec Ideal S256x1 .f32)

/-- The largest of the four maxima, in the order a device takes them. -/
def largest (c : Dev nD) (r : Fin 256) : EReal :=
  max (max (max (tM c (ix2 r (0 : Fin 1))) (tM (c + 1) (ix2 r (0 : Fin 1)))) (tM (c + 2) (ix2 r (0 : Fin 1)))) (tM (c + 3) (ix2 r (0 : Fin 1)))

/-- One part's factor. -/
def factor (c : Dev nD) (r : Fin 256) (k : Dev nD) : EReal := Ideal.exp (tM k (ix2 r (0 : Fin 1)) - largest tM c r)

theorem comb_apply (c : Dev nD) (b h : Fin 16) (d : Fin 64) :
    comb (F := Ideal) tO tM tL c (ix4 b (0 : Fin 1) h d)
      = Ideal.div
          (factor tM c (at' b h) c * tO c (ix2 (at' b h) d) + factor tM c (at' b h) (c + 1) * tO (c + 1) (ix2 (at' b h) d)
            + factor tM c (at' b h) (c + 2) * tO (c + 2) (ix2 (at' b h) d) + factor tM c (at' b h) (c + 3) * tO (c + 3) (ix2 (at' b h) d))
          (factor tM c (at' b h) c * tL c (ix2 (at' b h) (0 : Fin 1)) + factor tM c (at' b h) (c + 1) * tL (c + 1) (ix2 (at' b h) (0 : Fin 1))
            + factor tM c (at' b h) (c + 2) * tL (c + 2) (ix2 (at' b h) (0 : Fin 1)) + factor tM c (at' b h) (c + 3) * tL (c + 3) (ix2 (at' b h) (0 : Fin 1))) := by
  unfold comb factor largest
  generalize tM c = M0
  generalize tM (c + 1) = M1
  generalize tM (c + 2) = M2
  generalize tM (c + 3) = M3
  generalize tO c = O0
  generalize tO (c + 1) = O1
  generalize tO (c + 2) = O2
  generalize tO (c + 3) = O3
  generalize tL c = L0
  generalize tL (c + 1) = L1
  generalize tL (c + 2) = L2
  generalize tL (c + 3) = L3
  pointwise [k0_pay85, k0_pay84, k0_pay83, k0_pay82, k0_pay81, k0_pay80, k0_pay79, k0_pay78, k0_pay77, k0_pay76]
  simp only [show ∀ M : FVec Ideal S256x1 .f32, get1 M (ix4 (0 : Fin 1) b h (0 : Fin 1)) = M (ix2 (at' b h) (0 : Fin 1)) from fun _ => rfl,
    show ∀ O : FVec Ideal S256x64 .f32, getO O (ix4 (0 : Fin 1) b h d) = O (ix2 (at' b h) d) from fun _ => rfl]

end Comb

end Cert.KernelIdeal.Talk

end
-- ==== Proof.IdealAnswer.lean ====
/- What the devices return: the softmax over the pages, each weighted by how often the table lists it. -/
module

public import proofs.«01_k».proof.Proof.IdealRows

@[expose] public section

set_option maxRecDepth 16384

noncomputable section

namespace Cert.KernelIdeal.Talk

open Cert.KernelIdeal Cert.KernelIdeal.Gen Cert.Softmax
open Idealize.ShloMosaic Idealize.ShloMosaic.TcCoe

section Answer

variable (q : FVec Ideal S16x1x16x64 .f32) (bt : IVec S16x128 32) (ln : IVec S16x1 32) (kt vt : Fin 4 → FVec Ideal S16x16x64x128 .f32)
variable (Q : Fin 16 → Fin 16 → Fin 64 → ℝ) (K : Fin 4 × Fin 128 → Fin 16 → Fin 16 → Fin 64 → ℝ) (V : Fin 4 × Fin 128 → Fin 16 → Fin 16 → Fin 64 → EReal)

/-- The weight of a page's key: the page's count times the exponential of its score. -/
def weight (b h : Fin 16) (c : Fin 4) (k : Fin 2048) : ℝ :=
  (hits bt ln c b ⟨k.val % 128, Nat.mod_lt _ (by decide)⟩ : ℝ)
    * Real.exp (keyScore Q K b h (c, ⟨k.val % 128, Nat.mod_lt _ (by decide)⟩) ⟨k.val / 128, by omega⟩)

theorem weight_nonneg (b h : Fin 16) (c : Fin 4) (k : Fin 2048) : 0 ≤ weight bt ln Q K b h c k :=
  mul_nonneg (Nat.cast_nonneg _) (Real.exp_pos _).le

/-- A count's logarithm and a score together. -/
theorem add_log (x : ℝ) (n : ℕ) : (x : EReal) + Ideal.log ((n : ℝ) : EReal) = Ideal.log ((n * Real.exp x : ℝ) : EReal) := by
  rcases Nat.eq_zero_or_pos n with rfl | h
  · rw [Nat.cast_zero, zero_mul, log_coe_zero, EReal.add_bot]
  · have hn : (0 : ℝ) < n := by exact_mod_cast h
    rw [log_coe_pos hn, log_coe_pos (mul_pos hn (Real.exp_pos x)), ← EReal.coe_add, Real.log_mul hn.ne' (Real.exp_pos x).ne', Real.log_exp, add_comm]

variable (hq : ∀ b h d, q (ix4 b (0 : Fin 1) h d) = (Q b h d : EReal))
variable (hk : ∀ c p s h d, kt c (ix4 s h d p) = (K (c, p) s h d : EReal))
variable (hv : ∀ c p s h d, vt c (ix4 s h d p) = V (c, p) s h d)

include hq hk in
theorem scores_eq (b h : Fin 16) (c : Fin 4) : scores q bt ln (kt c) c (at' b h) = fun k => Ideal.log (weight bt ln Q K b h c k : EReal) := by
  funext k
  have hb : (⟨(at' b h).val % 16, Nat.mod_lt _ (by decide)⟩ : Fin 16) = b := Fin.ext (by show (h.val * 16 + b.val) % 16 = b.val; omega)
  have hh : (⟨(at' b h).val / 16, by omega⟩ : Fin 16) = h := Fin.ext (by show (h.val * 16 + b.val) / 16 = h.val; omega)
  unfold scores weight
  rw [score_apply, scale_word, hb, hh]
  simp only [hq, hk]
  rw [← add_log, keyScore, EReal.coe_mul, coe_sum]
  simp only [EReal.coe_mul]

include hq hk hv in
/-- The devices' answer, page by page. -/
theorem answer (b h : Fin 16) (d : Fin 64) (c : Fin 4)
    (hA : 0 < ∑ g : Fin 4 × Fin 128, ∑ s, ((hits bt ln g.1 b g.2 : ℝ) * Real.exp (keyScore Q K b h g s))) :
    comb (F := Ideal) (fun c => tabO q bt ln (kt c) (vt c) c) (fun c => tabM q bt ln (kt c) c) (fun c => tabL q bt ln (kt c) c) c (ix4 b (0 : Fin 1) h d)
      = ∑ g : Fin 4 × Fin 128, ∑ s, (((hits bt ln g.1 b g.2 : ℝ) * Real.exp (keyScore Q K b h g s)
          / ∑ g : Fin 4 × Fin 128, ∑ s, ((hits bt ln g.1 b g.2 : ℝ) * Real.exp (keyScore Q K b h g s)) : ℝ) : EReal) * V g s h d := by
  have hsum : ∀ {M : Type} [AddCommMonoid M] (f : Fin 4 × Fin 128 → Fin 16 → M),
      ∑ c : Fin 4, ∑ k : Fin 2048, f (c, ⟨k.val % 128, Nat.mod_lt _ (by decide)⟩) ⟨k.val / 128, by omega⟩ = ∑ g, ∑ s, f g s := fun f => by
    rw [Fintype.sum_prod_type]
    refine Finset.sum_congr rfl fun c _ => ?_
    rw [sum_blocks 16 128 rfl]
    refine Finset.sum_comm.trans (Finset.sum_congr rfl fun p _ => Finset.sum_congr rfl fun s _ => ?_)
    congr 1
    · exact Prod.ext rfl (Fin.ext (by show (s.val * 128 + p.val) % 128 = p.val; omega))
    · exact Fin.ext (by show (s.val * 128 + p.val) / 128 = s.val; omega)
  have hT : ∑ c, ∑ k, weight bt ln Q K b h c k = ∑ g : Fin 4 × Fin 128, ∑ s, ((hits bt ln g.1 b g.2 : ℝ) * Real.exp (keyScore Q K b h g s)) :=
    hsum (fun g s => (hits bt ln g.1 b g.2 : ℝ) * Real.exp (keyScore Q K b h g s))
  have hc := combined (fun c => weight bt ln Q K b h c)
    (fun c k => V (c, ⟨k.val % 128, Nat.mod_lt _ (by decide)⟩) ⟨k.val / 128, by omega⟩ h d)
    (fun c k => weight_nonneg bt ln Q K b h c k) (hT ▸ hA) c
  have hM : ∀ c : Fin 4, tabM (F := Ideal) q bt ln (kt c) c (ix2 (at' b h) (0 : Fin 1)) = pm (fun c => weight bt ln Q K b h c) c := fun c => by
    rw [tabM_apply, scores_eq q bt ln kt Q K hq hk]
  have hL : ∀ c : Fin 4, tabL (F := Ideal) q bt ln (kt c) c (ix2 (at' b h) (0 : Fin 1)) = pl (fun c => weight bt ln Q K b h c) c := fun c => by
    rw [tabL_apply, scores_eq q bt ln kt Q K hq hk]
  have hO : ∀ c : Fin 4, tabO (F := Ideal) q bt ln (kt c) (vt c) c (ix2 (at' b h) d)
      = po (fun c => weight bt ln Q K b h c) (fun c k => V (c, ⟨k.val % 128, Nat.mod_lt _ (by decide)⟩) ⟨k.val / 128, by omega⟩ h d) c := fun c => by
    rw [tabO_apply, po, sum_blocks 16 128 rfl]
    have hh : (⟨(at' b h).val / 16, by omega⟩ : Fin 16) = h := Fin.ext (by show (h.val * 16 + b.val) / 16 = h.val; omega)
    refine Finset.sum_congr rfl fun s _ => Finset.sum_congr rfl fun p _ => ?_
    rw [tabE_apply, scores_eq q bt ln kt Q K hq hk, hh, hv]
    have h1 : (⟨(s.val * 128 + p.val) % 128, Nat.mod_lt _ (by decide)⟩ : Fin 128) = p := Fin.ext (by show (s.val * 128 + p.val) % 128 = p.val; omega)
    have h2 : (⟨(s.val * 128 + p.val) / 128, by omega⟩ : Fin 16) = s := Fin.ext (by show (s.val * 128 + p.val) / 128 = s.val; omega)
    simp only [h1, h2]
  rw [comb_apply]
  unfold factor largest
  simp only [hM, hL, hO]
  refine hc.trans ?_
  rw [hT]
  exact hsum (fun g s => (((hits bt ln g.1 b g.2 : ℝ) * Real.exp (keyScore Q K b h g s)
          / ∑ g : Fin 4 × Fin 128, ∑ s, ((hits bt ln g.1 b g.2 : ℝ) * Real.exp (keyScore Q K b h g s)) : ℝ) : EReal) * V g s h d)

end Answer

end Cert.KernelIdeal.Talk

end
-- ==== Proof.RefValue.lean ====
/- What the reference returns, read at an index. -/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Value

open Cert.ReferenceIdeal Cert.ReferenceIdeal.Gen Cert.Softmax
open Idealize.ShloMosaic Idealize.ShloMosaic.TcCoe

/-- The page a table word names: read signed, and held between the first page and the last. -/
def page (w : BitVec 32) : Fin 512 := ⟨min w.toInt.toNat 511, by omega⟩

/-- The pages a table lists, gathered. -/
theorem gather_apply (x : S512x16x16x64.Idx → EReal) (idx : IVec S16x128x1 32) (b : Fin 16) (j : Fin 128) (s h : Fin 16) (d : Fin 64) :
    Host.gather gather_S512x16x16x64_S16x128x1_S16x128x16x16x64_234_0_n_n_0_2_1161664 x idx (ix5 b j s h d)
      = x (ix4 (page (idx (ix3 b j (0 : Fin 1)))) s h d) := by
  unfold Host.gather
  refine congrArg x (funext fun a => Fin.ext ?_)
  match a with
  | ⟨0, _⟩ =>
    show min (idx _).toInt.toNat 511 + 0 + 0 = min (idx _).toInt.toNat 511
    refine congrArg (fun i => min (idx i).toInt.toNat 511) ?_
    funext b'
    match b' with
    | ⟨0, _⟩ => rfl
    | ⟨1, _⟩ => rfl
    | ⟨2, _⟩ => rfl
  | ⟨1, _⟩ => exact (Nat.zero_add _)
  | ⟨2, _⟩ => exact (Nat.zero_add _)
  | ⟨3, _⟩ => exact (Nat.zero_add _)

/-- A table word, a page counted from the end where it is negative. -/
def wrap (w : BitVec 32) : BitVec 32 := if IntOp.cmpi .slt w 0#32 = 1#1 then IntOp.addi w 512#32 else w

/-- The gather's start indices. -/
def starts (bt : IVec S16x128 32) : IVec S16x128x1 32 :=
  broadcastInDim S16x128x1 ![0, 1] bcast_S16x128_S16x128x1_0_1 (select (cmpi .slt bt (broadcastInDim S16x128 ![] bcast_S_S16x128 (constantI S_ 32 0#32))) (addi bt (broadcastInDim S16x128 ![] bcast_S_S16x128 (constantI S_ 32 512#32))) bt)

theorem starts_apply (bt : IVec S16x128 32) (b : Fin 16) (j : Fin 128) : starts bt (ix3 b j (0 : Fin 1)) = wrap (bt (ix2 b j)) := by
  pointwise [starts]
  rfl

/-- The listed keys (or values), in the order of the table. -/
def listed (x : FVec Ideal S512x16x16x64 .f32) (bt : IVec S16x128 32) : FVec Ideal S16x2048x16x64 .f32 :=
  shapeCast _ (Host.gather gather_S512x16x16x64_S16x128x1_S16x128x16x16x64_234_0_n_n_0_2_1161664 x (starts bt)) shapeCasts_S16x128x16x16x64_S16x2048x16x64

theorem listed_apply (x : FVec Ideal S512x16x16x64 .f32) (bt : IVec S16x128 32) (b : Fin 16) (k : Fin 2048) (h : Fin 16) (d : Fin 64) :
    listed x bt (ix4 b k h d) = x (ix4 (page (wrap (bt (ix2 b ⟨k.val / 16, by omega⟩)))) ⟨k.val % 16, Nat.mod_lt _ (by decide)⟩ h d) := by
  rw [← starts_apply, ← gather_apply x (starts bt)]
  unfold listed
  generalize Host.gather gather_S512x16x16x64_S16x128x1_S16x128x16x16x64_234_0_n_n_0_2_1161664 x (starts bt) = G
  pointwise []

/-- Which keys are in use. -/
def used (ln : IVec S16 32) : IVec S16x1x1x2048 1 :=
  cmpi .slt (select (andi (cmpi .ne (signi (iotaInDim S16x1x1x2048 32 3)) (broadcastInDim S16x1x1x2048 ![] bcast_S_S16x1x1x2048 (signi (id (constantI S_ 32 16#32))))) (cmpi .ne (Host.remsi (iotaInDim S16x1x1x2048 32 3) (broadcastInDim S16x1x1x2048 ![] bcast_S_S16x1x1x2048 (id (constantI S_ 32 16#32)))) (broadcastInDim S16x1x1x2048 ![] bcast_S_S16x1x1x2048 (constantI S_ 32 0#32)))) (subi (Host.divsi (iotaInDim S16x1x1x2048 32 3) (broadcastInDim S16x1x1x2048 ![] bcast_S_S16x1x1x2048 (id (constantI S_ 32 16#32)))) (broadcastInDim S16x1x1x2048 ![] bcast_S_S16x1x1x2048 (constantI S_ 32 1#32))) (Host.divsi (iotaInDim S16x1x1x2048 32 3) (broadcastInDim S16x1x1x2048 ![] bcast_S_S16x1x1x2048 (id (constantI S_ 32 16#32))))) (broadcastInDim S16x1x1x2048 ![0, 1, 2, 3] bcast_S16x1x1x1_S16x1x1x2048_0_1_2_3 (shapeCast _ ln shapeCasts_S16_S16x1x1x1))

/-- The scores, −∞ where the key is not in use. -/
def masked (q : FVec Ideal S16x1x16x64 .f32) (x : FVec Ideal S512x16x16x64 .f32) (bt : IVec S16x128 32) (ln : IVec S16 32) : FVec Ideal S16x16x1x2048 .f32 :=
  select (broadcastInDim S16x16x1x2048 ![0, 1, 2, 3] bcast_S16x1x1x2048_S16x16x1x2048_0_1_2_3 (used ln)) (mulf (Host.dotGeneral dot_S16x1x16x64_S16x2048x16x64_S16x16x1x2048_3_3_1_1_02_02 none q (listed x bt)) (broadcastInDim S16x16x1x2048 ![] bcast_S_S16x16x1x2048 (constant S_ .f32 0x3E000000#32))) (broadcastInDim S16x16x1x2048 ![] bcast_S_S16x16x1x2048 (id (constant S_ .f32 0xFF800000#32)))

/-- The exponentials of the scores' distances from their maximum. -/
def exps (s : FVec Ideal S16x16x1x2048 .f32) : FVec Ideal S16x16x1x2048 .f32 :=
  Host.exp (subf s (broadcastInDim S16x16x1x2048 ![0, 1, 2, 3] bcast_S16x16x1x1_S16x16x1x2048_0_1_2_3 (broadcastInDim S16x16x1x1 ![0, 1, 2] bcast_S16x16x1_S16x16x1x1_0_1_2 (Host.reduce FloatOps.maximumf s (constant S_ .f32 0xFF800000#32) reducesTo_S16x16x1x2048_S16x16x1_d3 h_S_))))

/-- The softmax against the values. -/
def attend (e : FVec Ideal S16x16x1x2048 .f32) (v : FVec Ideal S16x2048x16x64 .f32) : FVec Ideal S16x1x16x64 .f32 :=
  transpose S16x1x16x64 [0, 3, 1, 2] (Host.dotGeneral dot_S16x2048x16x64_S16x16x1x2048_S16x16x64x1_1_3_3_2_02_01 none v (Host.divf e (broadcastInDim S16x16x1x2048 ![0, 1, 2, 3] bcast_S16x16x1x1_S16x16x1x2048_0_1_2_3 (broadcastInDim S16x16x1x1 ![0, 1, 2] bcast_S16x16x1_S16x16x1x1_0_1_2 (Host.reduceAdd e (constant S_ .f32 0x00000000#32) reducesTo_S16x16x1x2048_S16x16x1_d3 h_S_))))) transposes_S16x16x64x1_S16x1x16x64_0_3_1_2

/-- The quotient by 16 of a key's number, as the program computes it. -/
def div16 (k : Fin 2048) : BitVec 32 :=
  Scalar.select
    (IntOp.andi
      (IntOp.cmpi (w := 32) CmpIPredicate.ne (if BitVec.ofNat 32 k.val = 0 then 0 else if (BitVec.ofNat 32 k.val).msb = true then -1 else 1)
        (if (16#32 : BitVec 32) = 0 then 0 else if (16#32 : BitVec 32).msb = true then -1 else 1))
      (IntOp.cmpi (w := 32) CmpIPredicate.ne (IntOp.remsi ArithUnit.host (BitVec.ofNat 32 k.val) 16#32) 0#32))
    (IntOp.subi (IntOp.divsi ArithUnit.host (BitVec.ofNat 32 k.val) 16#32) 1#32)
    (IntOp.divsi ArithUnit.host (BitVec.ofNat 32 k.val) 16#32)

theorem used_apply (ln : IVec S16 32) (b : Fin 16) (k : Fin 2048) :
    used ln (ix4 b (0 : Fin 1) (0 : Fin 1) k) = IntOp.cmpi .slt (BitVec.ofNat 32 (k.val / 16)) (ln (ix1 b)) := by
  pointwise [used]
  refine congrArg (IntOp.cmpi .slt · _) ?_
  show div16 k = _
  revert k; decide +kernel

theorem masked_apply (q : FVec Ideal S16x1x16x64 .f32) (x : FVec Ideal S512x16x16x64 .f32) (bt : IVec S16x128 32) (ln : IVec S16 32) (b h : Fin 16) (k : Fin 2048) :
    masked q x bt ln (ix4 b h (0 : Fin 1) k)
      = if IntOp.cmpi .slt (BitVec.ofNat 32 (k.val / 16)) (ln (ix1 b)) = 1#1
        then (∑ d : Fin 64, q (ix4 b (0 : Fin 1) h d) * x (ix4 (page (wrap (bt (ix2 b ⟨k.val / 16, by omega⟩)))) ⟨k.val % 16, Nat.mod_lt _ (by decide)⟩ h d)) * Ideal.ofBits .f32 0x3E000000#32
        else Ideal.ofBits .f32 0xFF800000#32 := by
  simp only [← used_apply, ← listed_apply]
  unfold masked
  generalize used ln = u
  generalize listed x bt = K
  pointwise []
  rfl

theorem exps_apply (s : FVec Ideal S16x16x1x2048 .f32) (b h : Fin 16) (k : Fin 2048) :
    exps s (ix4 b h (0 : Fin 1) k) = Ideal.exp (s (ix4 b h (0 : Fin 1) k) - Finset.univ.fold max (Ideal.ofBits .f32 0xFF800000#32) (fun k => s (ix4 b h (0 : Fin 1) k))) := by
  pointwise [exps]

theorem attend_apply (e : FVec Ideal S16x16x1x2048 .f32) (v : FVec Ideal S16x2048x16x64 .f32) (b h : Fin 16) (d : Fin 64) :
    attend e v (ix4 b (0 : Fin 1) h d) = ∑ k, v (ix4 b k h d) * Ideal.div (e (ix4 b h (0 : Fin 1) k)) (∑ k, e (ix4 b h (0 : Fin 1) k)) := by
  pointwise [attend]

theorem res_eq (m : (ℓ : Loc nD τ sig) → Buf (Elt Ideal) ℓ) (c : Dev nD) :
    res_main_v35 (F := Ideal) m c
      = attend (exps (masked (m ((c.tc : Thread nD τ).loc main_arg0)) (m ((c.tc : Thread nD τ).loc main_arg1)) (m ((c.tc : Thread nD τ).loc main_arg3)) (m ((c.tc : Thread nD τ).loc main_arg4))))
          (listed (m ((c.tc : Thread nD τ).loc main_arg2)) (m ((c.tc : Thread nD τ).loc main_arg3))) := rfl

end Cert.ReferenceIdeal.Value

end
-- ==== Proof.RefAnswer.lean ====
/- What the reference returns: the softmax over the pages, each weighted by how often the table lists it. -/
module

public import proofs.«01_k».proof.Proof.RefValue

@[expose] public section

set_option maxRecDepth 16384

noncomputable section

namespace Cert.ReferenceIdeal.Value

open Cert.ReferenceIdeal Cert.ReferenceIdeal.Gen Cert.Softmax
open Idealize.ShloMosaic Idealize.ShloMosaic.TcCoe

/-- A page's device and its number there. -/
def place (t : Fin 512) : Fin 4 × Fin 128 := (⟨t.val / 128, by omega⟩, ⟨t.val % 128, Nat.mod_lt _ (by decide)⟩)

/-- Slot `j` of sequence `b` is in use. -/
def Live (ln : IVec S16 32) (b : Fin 16) (j : Fin 128) : Prop := IntOp.cmpi .slt (BitVec.ofNat 32 j.val) (ln (ix1 b)) = 1#1

instance (ln : IVec S16 32) (b : Fin 16) : DecidablePred (Live ln b) := fun _ => inferInstanceAs (Decidable (_ = _))

/-- The page slot `j` of sequence `b` names. -/
def slotPage (bt : IVec S16x128 32) (b : Fin 16) (j : Fin 128) : Fin 4 × Fin 128 := place (page (wrap (bt (ix2 b j))))

section Answer

variable (q : FVec Ideal S16x1x16x64 .f32) (x y : FVec Ideal S512x16x16x64 .f32) (bt : IVec S16x128 32) (ln : IVec S16 32)
variable (Q : Fin 16 → Fin 16 → Fin 64 → ℝ) (K : Fin 4 × Fin 128 → Fin 16 → Fin 16 → Fin 64 → ℝ) (V : Fin 4 × Fin 128 → Fin 16 → Fin 16 → Fin 64 → EReal)

/-- The weight of a slot's key. -/
def keyWeight (b h : Fin 16) (j : Fin 128) (s : Fin 16) : ℝ := if Live ln b j then Real.exp (keyScore Q K b h (slotPage bt b j) s) else 0

variable (hq : ∀ b h d, q (ix4 b (0 : Fin 1) h d) = (Q b h d : EReal))
variable (hk : ∀ t s h d, x (ix4 t s h d) = (K (place t) s h d : EReal))
variable (hv : ∀ t s h d, y (ix4 t s h d) = V (place t) s h d)

include hq hk in
theorem masked_eq (b h : Fin 16) (k : Fin 2048) :
    masked q x bt ln (ix4 b h (0 : Fin 1) k) = Ideal.log (keyWeight bt ln Q K b h ⟨k.val / 16, by omega⟩ ⟨k.val % 16, Nat.mod_lt _ (by decide)⟩ : EReal) := by
  rw [masked_apply, low_word, scale_word]
  unfold keyWeight
  by_cases hl : IntOp.cmpi .slt (BitVec.ofNat 32 (k.val / 16)) (ln (ix1 b)) = 1#1
  · have hl' : Live ln b ⟨k.val / 16, by omega⟩ := hl
    rw [if_pos hl, if_pos hl', log_coe_pos (Real.exp_pos _), Real.log_exp, keyScore, EReal.coe_mul, coe_sum]
    simp only [hq, hk, EReal.coe_mul]
    rfl
  · have hl' : ¬ Live ln b ⟨k.val / 16, by omega⟩ := hl
    rw [if_neg hl, if_neg hl', log_coe_zero]

include hq hk hv in
/-- The reference's answer, page by page. -/
theorem answer (b h : Fin 16) (d : Fin 64)
    (hA : 0 < ∑ g : Fin 4 × Fin 128, ∑ s, ((count (Live ln b) (slotPage bt b) g : ℝ) * Real.exp (keyScore Q K b h g s))) :
    attend (exps (masked q x bt ln)) (listed y bt) (ix4 b (0 : Fin 1) h d)
      = ∑ g : Fin 4 × Fin 128, ∑ s, (((count (Live ln b) (slotPage bt b) g : ℝ) * Real.exp (keyScore Q K b h g s)
          / ∑ g : Fin 4 × Fin 128, ∑ s, ((count (Live ln b) (slotPage bt b) g : ℝ) * Real.exp (keyScore Q K b h g s)) : ℝ) : EReal) * V g s h d := by
  have hcol : ∀ {M : Type} [AddCommMonoid M] (f : Fin 128 → Fin 16 → M),
      ∑ k : Fin 2048, f ⟨k.val / 16, by omega⟩ ⟨k.val % 16, Nat.mod_lt _ (by decide)⟩ = ∑ j, ∑ s, f j s := fun f => by
    rw [sum_blocks 128 16 rfl]
    refine Finset.sum_congr rfl fun j _ => Finset.sum_congr rfl fun s _ => ?_
    congr 1
    · exact Fin.ext (by show (j.val * 16 + s.val) / 16 = j.val; omega)
    · exact Fin.ext (by show (j.val * 16 + s.val) % 16 = s.val; omega)
  have hT : ∑ k : Fin 2048, keyWeight bt ln Q K b h ⟨k.val / 16, by omega⟩ ⟨k.val % 16, Nat.mod_lt _ (by decide)⟩
      = ∑ g : Fin 4 × Fin 128, ∑ s, ((count (Live ln b) (slotPage bt b) g : ℝ) * Real.exp (keyScore Q K b h g s)) :=
    (hcol (keyWeight bt ln Q K b h)).trans (total (Live ln b) (slotPage bt b) fun g s => Real.exp (keyScore Q K b h g s))
  have hw := whole (fun k : Fin 2048 => keyWeight bt ln Q K b h ⟨k.val / 16, by omega⟩ ⟨k.val % 16, Nat.mod_lt _ (by decide)⟩)
    (fun k => by unfold keyWeight; split; exacts [(Real.exp_pos _).le, le_rfl]) (hT ▸ hA)
    (fun k => V (slotPage bt b ⟨k.val / 16, by omega⟩) ⟨k.val % 16, Nat.mod_lt _ (by decide)⟩ h d)
  rw [attend_apply]
  simp only [exps_apply, masked_eq q x bt ln Q K hq hk, low_word, listed_apply, hv]
  refine hw.trans ?_
  rw [hcol (keyWeight bt ln Q K b h)]
  refine (hcol fun j s => (((keyWeight bt ln Q K b h j s) / ∑ j, ∑ s, keyWeight bt ln Q K b h j s : ℝ) : EReal) * V (slotPage bt b j) s h d).trans ?_
  exact by_page (Live ln b) (slotPage bt b) (fun g s => Real.exp (keyScore Q K b h g s)) (fun _ _ => (Real.exp_pos _).le) (fun g s => V g s h d)

end Answer

end Cert.ReferenceIdeal.Value

end
-- ==== Proof.Domain.lean ====
/- What the precondition says of the arguments. -/
module

public import proofs.«01_k».proof.Pre_in_domain_KernelIdeal
public import Idealize.ShloMosaic.Lib.Pointwise
public import Idealize.ShloMosaic.Lib.ReduceAll
public import Idealize.ShloMosaic.Lib.StableHlo.Predicate

@[expose] public section

set_option maxRecDepth 16384

noncomputable section

namespace Cert.Domain

open Cert.Pre_in_domain_KernelIdeal
open Idealize.ShloMosaic Idealize.ShloMosaic.TcCoe

variable [Facts]

theorem andi_both {x y : BitVec 1} (h : IntOp.andi x y = 1#1) : x = 1#1 ∧ y = 1#1 := by revert x y; decide

theorem first_of_or {x y : BitVec 1} (h : IntOp.ori x (~~~y) = 1#1) (hy : y = 1#1) : x = 1#1 := by revert x y; decide

theorem inf_word : Ideal.ofBits FTy.f32 0x7F800000#32 = ⊤ := by
  simp [Ideal.ofBits, Ideal.ieee]

instance : Subsingleton S_.Idx := ⟨fun _ _ => funext fun a => a.elim0⟩

/-- A number whose absolute value is below infinity is a real number. -/
theorem finite_of_abs (x : EReal) (h : FloatOps.cmpf (F := Ideal) (φ := FTy.f32) .olt (FloatOps.hostAbsf (F := Ideal) (φ := FTy.f32) x) ⊤ = 1#1) : ∃ r : ℝ, x = (r : EReal) := by
  rw [Ideal.cmpf_def, Ideal.cmp_olt] at h
  change BitVec.ofBool (decide (max x (-x) < (⊤ : EReal))) = 1#1 at h
  have hlt : max x (-x) < (⊤ : EReal) := by
    by_contra hc
    rw [decide_eq_false hc] at h
    exact absurd h (by decide)
  induction x using EReal.rec with
  | bot => exact absurd hlt (by simp)
  | top => exact absurd hlt (by simp)
  | coe r => exact ⟨r, rfl⟩

theorem of_pre (q : FVec Ideal S16x1x16x64 .f32) (k v : FVec Ideal S128x16x16x64 .f32) (bt : IVec S16x128 32) (ln : IVec S16 32)
    (h : fn (F := Ideal) q k v bt ln = fun _ => 1#1) :
    (∀ b, IntOp.cmpi .sge (ln (ix1 b)) 1#32 = 1#1)
      ∧ (∀ b j, IntOp.cmpi .slt (BitVec.ofNat 32 j.val) (ln (ix1 b)) = 1#1 → IntOp.cmpi .sge (bt (ix2 b j)) 0#32 = 1#1 ∧ IntOp.cmpi .slt (bt (ix2 b j)) 512#32 = 1#1)
      ∧ (∀ b h d, ∃ r : ℝ, q (ix4 b (0 : Fin 1) h d) = (r : EReal)) ∧ (∀ t s h d, ∃ r : ℝ, k (ix4 t s h d) = (r : EReal)) := by
  have h0 := congrFun h ix0
  obtain ⟨h1, h2⟩ := andi_both h0
  obtain ⟨h3, h4⟩ := andi_both h1
  obtain ⟨h5, h6⟩ := andi_both h2
  refine ⟨fun b => ?_, fun b j hl => ?_, fun b h d => ?_, fun t s h d => ?_⟩
  · exact Host.reduce_andi_all _ _ _ _ _ h3 (ix1 b)
  · have := Host.reduce_andi_all _ _ _ _ _ h4 (ix2 b j)
    pointwise [] at this
    exact andi_both (first_of_or this hl)
  · have := Host.reduce_andi_all _ _ _ _ _ h5 (ix4 b (0 : Fin 1) h d)
    refine finite_of_abs _ ?_
    rw [← inf_word]
    exact this
  · have := Host.reduce_andi_all _ _ _ _ _ h6 (ix4 t s h d)
    refine finite_of_abs _ ?_
    rw [← inf_word]
    exact this

end Cert.Domain

end
-- ==== Proof.Algebraic.lean ====
/- The kernel's answer on every device is the reference's: both weigh the same pages alike. -/
module

public import proofs.«01_k».proof.Proof.Frames
public import proofs.«01_k».proof.Proof.IdealAnswer
public import proofs.«01_k».proof.Proof.RefAnswer
public import proofs.«01_k».proof.Proof.Domain
public import Idealize.ShloMosaic.Lib.LayoutAt

@[expose] public section

set_option maxRecDepth 16384

noncomputable section

namespace Cert.Proof

open Cert.KernelIdeal (S16x1x16x64 S128x16x16x64 S16x128 S16x1 S16)
open Cert.ReferenceIdeal (S512x16x16x64)
open Cert.KernelIdeal.Talk (Hit hits)
open Cert.ReferenceIdeal.Value (wrap page place Live slotPage)
open Cert.Softmax (keyScore)
open Idealize.ShloMosaic Idealize.ShloMosaic.TcCoe Idealize.SL.Sem

/-! ## Page numbers -/

/-- A page number is neither wrapped nor held. -/
theorem page_wrap : ∀ n : Fin 512, page (wrap (BitVec.ofNat 32 n.val)) = n := by decide +kernel

/-- The number a device looks for. -/
theorem sought : ∀ (c : Fin 4) (p : Fin 128),
    IntOp.addi (BitVec.ofNat 32 p.val) (Scalar.muli (Cert.KernelIdeal.Talk.myOf c) 128#32) = BitVec.ofNat 32 (c.val * 128 + p.val) := by
  decide +kernel

/-- A word between the bounds is a page number. -/
theorem is_page (w : BitVec 32) (h0 : IntOp.cmpi .sge w 0#32 = 1#1) (h1 : IntOp.cmpi .slt w 512#32 = 1#1) : ∃ n : Fin 512, w = BitVec.ofNat 32 n.val := by
  have a := IntOp.cmpi_sge.1 h0
  have b := IntOp.cmpi_slt.1 h1
  have e0 : (0#32).toInt = 0 := by decide
  have e1 : (512#32).toInt = 512 := by decide
  rw [e0] at a
  rw [e1] at b
  have hn : w.toNat < 512 := by
    have := BitVec.toInt_eq_toNat_cond w
    have := w.isLt
    split at * <;> omega
  exact ⟨⟨w.toNat, hn⟩, by simp⟩

theorem place_eq (n : Fin 512) (c : Fin 4) (p : Fin 128) : place n = (c, p) ↔ n.val = c.val * 128 + p.val := by
  unfold place
  rw [Prod.mk.injEq, Fin.ext_iff, Fin.ext_iff]
  show n.val / 128 = c.val ∧ n.val % 128 = p.val ↔ _
  omega

/-- The page at a place. -/
def at_ (g : Fin 4 × Fin 128) : Fin 512 := ⟨g.1.val * 128 + g.2.val, by omega⟩

theorem place_at (g : Fin 4 × Fin 128) : place (at_ g) = g := (place_eq (at_ g) g.1 g.2).2 rfl

theorem at_place (t : Fin 512) : at_ (place t) = t := Fin.ext (by show t.val / 128 * 128 + t.val % 128 = t.val; omega)

section Counts

variable (bt : IVec S16x128 32) (ln : IVec S16 32) (ln' : IVec S16x1 32)
variable (hln : ∀ b, ln' (ix2 b (0 : Fin 1)) = ln (ix1 b))
variable (hbt : ∀ b j, Live ln b j → IntOp.cmpi .sge (bt (ix2 b j)) 0#32 = 1#1 ∧ IntOp.cmpi .slt (bt (ix2 b j)) 512#32 = 1#1)

include hln hbt in
/-- A device finds a page in a slot where the reference reads that page. -/
theorem hit_iff (b : Fin 16) (c : Fin 4) (p : Fin 128) (j : Fin 128) : Hit bt ln' c b p j ↔ Live ln b j ∧ slotPage bt b j = (c, p) := by
  unfold Hit
  rw [hln, and_comm]
  refine and_congr_right fun hl => ?_
  obtain ⟨n, hn⟩ := is_page _ (hbt b j hl).1 (hbt b j hl).2
  unfold slotPage
  rw [hn, page_wrap, place_eq, sought]
  exact Cert.KernelIdeal.Talk.ofNat_inj (by omega) (by omega)

include hln hbt in
theorem hits_eq (b : Fin 16) (g : Fin 4 × Fin 128) : hits bt ln' g.1 b g.2 = Softmax.count (Live ln b) (slotPage bt b) g := by
  unfold hits Softmax.count
  exact congrArg Finset.card (Finset.filter_congr fun j _ => hit_iff bt ln ln' hln hbt b g.1 g.2 j)

/-- A sequence with a slot in use has weight to give. -/
theorem some_weight (hone : ∀ b, IntOp.cmpi .sge (ln (ix1 b)) 1#32 = 1#1) (b : Fin 16) (f : Fin 4 × Fin 128 → Fin 16 → ℝ) (hf : ∀ g s, 0 < f g s) :
    0 < ∑ g : Fin 4 × Fin 128, ∑ s, ((Softmax.count (Live ln b) (slotPage bt b) g : ℝ) * f g s) := by
  have hl : Live ln b 0 := by
    have a := IntOp.cmpi_sge.1 (hone b)
    refine IntOp.cmpi_slt.2 ?_
    have e0 : (1#32).toInt = 1 := by decide
    have e1 : (BitVec.ofNat 32 (0 : Fin 128).val).toInt = 0 := by decide
    rw [e0] at a
    rw [e1]
    omega
  have hpos : 0 < Softmax.count (Live ln b) (slotPage bt b) (slotPage bt b 0) :=
    Finset.card_pos.2 ⟨0, Finset.mem_filter.2 ⟨Finset.mem_univ _, hl, rfl⟩⟩
  have h0 : ∀ g s, 0 ≤ (Softmax.count (Live ln b) (slotPage bt b) g : ℝ) * f g s := fun g s => mul_nonneg (Nat.cast_nonneg _) (hf g s).le
  refine Finset.sum_pos' (fun g _ => Finset.sum_nonneg fun s _ => h0 g s) ⟨slotPage bt b 0, Finset.mem_univ _, ?_⟩
  exact Finset.sum_pos' (fun s _ => h0 _ s) ⟨0, Finset.mem_univ _, mul_pos (by exact_mod_cast hpos) (hf _ _)⟩

end Counts

/-! ## The arrays -/

/-- Device `c`'s block of the pages. -/
theorem block_page (x : FVec Ideal S512x16x16x64 .f32) (c : Fin 4) (p : Fin 128) (s h : Fin 16) (d : Fin 64) :
    (Layout.block ⟨4, ![128, 16, 16, 64]⟩ ⟨4, ![512, 16, 16, 64]⟩ 0 4 c x) (ix4 p s h d) = x (ix4 (at_ (c, p)) s h d) := by
  rw [Layout.block_apply]
  refine congrArg x (funext fun a => ?_)
  match a with
  | ⟨0, _⟩ => exact Fin.ext rfl
  | ⟨1, _⟩ => exact Fin.ext rfl
  | ⟨2, _⟩ => exact Fin.ext rfl
  | ⟨3, _⟩ => exact Fin.ext rfl

section Entry

open Cert.KernelIdeal Cert.KernelIdeal.Gen

variable (m : (ℓ : Loc nD τ sig) → Buf (Elt Ideal) ℓ)

/-- The keys and values as the region finds them, pages last; and the lengths, a column. -/
theorem keys_at (c : Dev nD) (p : Fin 128) (s h : Fin 16) (d : Fin 64) :
    (V m c main_v1 : FVec Ideal S16x16x64x128 .f32) (ix4 s h d p) = (m ((c : Thread nD τ).loc main_arg1) : FVec Ideal S128x16x16x64 .f32) (ix4 p s h d) := by
  have e : (V m c main_v1 : FVec Ideal S16x16x64x128 .f32) = transpose S16x16x64x128 [1, 2, 3, 0] (m ((c : Thread nD τ).loc main_arg1) : FVec Ideal S128x16x16x64 .f32) transposes_S128x16x16x64_S16x16x64x128_1_2_3_0 := by
    rfl
  rw [e]
  pointwise []

theorem values_at (c : Dev nD) (p : Fin 128) (s h : Fin 16) (d : Fin 64) :
    (V m c main_v2 : FVec Ideal S16x16x64x128 .f32) (ix4 s h d p) = (m ((c : Thread nD τ).loc main_arg2) : FVec Ideal S128x16x16x64 .f32) (ix4 p s h d) := by
  have e : (V m c main_v2 : FVec Ideal S16x16x64x128 .f32) = transpose S16x16x64x128 [1, 2, 3, 0] (m ((c : Thread nD τ).loc main_arg2) : FVec Ideal S128x16x16x64 .f32) transposes_S128x16x16x64_S16x16x64x128_1_2_3_0 := by
    rfl
  rw [e]
  pointwise []

theorem lens_at (c : Dev nD) (b : Fin 16) :
    (V m c main_v3 : IVec S16x1 32) (ix2 b (0 : Fin 1)) = (m ((c : Thread nD τ).loc main_arg4) : IVec S16 32) (ix1 b) := by
  have e : (V m c main_v3 : IVec S16x1 32) = shapeCast S16x1 (m ((c : Thread nD τ).loc main_arg4) : IVec S16 32) shapeCasts_S16_S16x1 := by
    rfl
  rw [e]
  pointwise []

end Entry

/-! ## The claim -/

/-- Every device's answer is the reference's, element by element. -/
theorem same (m : (ℓ : Loc KernelIdeal.nD KernelIdeal.τ KernelIdeal.sig) → Buf (Elt Ideal) ℓ)
    (q : FVec Ideal S16x1x16x64 .f32) (x y : FVec Ideal S512x16x16x64 .f32) (bt : IVec S16x128 32) (ln : IVec S16 32)
    (hq : ∀ c : Dev KernelIdeal.nD, m ((c.tc : Thread KernelIdeal.nD KernelIdeal.τ).loc KernelIdeal.main_arg0) = q)
    (hx : ∀ c : Dev KernelIdeal.nD, m ((c.tc : Thread KernelIdeal.nD KernelIdeal.τ).loc KernelIdeal.main_arg1) = Layout.block ⟨4, ![128, 16, 16, 64]⟩ ⟨4, ![512, 16, 16, 64]⟩ 0 4 c x)
    (hy : ∀ c : Dev KernelIdeal.nD, m ((c.tc : Thread KernelIdeal.nD KernelIdeal.τ).loc KernelIdeal.main_arg2) = Layout.block ⟨4, ![128, 16, 16, 64]⟩ ⟨4, ![512, 16, 16, 64]⟩ 0 4 c y)
    (hbt : ∀ c : Dev KernelIdeal.nD, m ((c.tc : Thread KernelIdeal.nD KernelIdeal.τ).loc KernelIdeal.main_arg3) = bt)
    (hln : ∀ c : Dev KernelIdeal.nD, m ((c.tc : Thread KernelIdeal.nD KernelIdeal.τ).loc KernelIdeal.main_arg4) = ln)
    (hpre : Cert.Pre_KernelIdeal_in_domain_KernelIdeal m) (c : Dev KernelIdeal.nD) :
    Cert.KernelIdeal.Talk.res (F := Ideal) m c = ReferenceIdeal.Value.attend (ReferenceIdeal.Value.exps (ReferenceIdeal.Value.masked q x bt ln)) (ReferenceIdeal.Value.listed y bt) := by
  have dom := fun c => Cert.Domain.of_pre _ _ _ _ _ (hpre c)
  simp only [hq, hx, hy, hbt, hln] at dom
  obtain ⟨hone, hpages, hqr, _⟩ := dom 0
  choose Q hQ using hqr
  have hkr : ∀ (g : Fin 4 × Fin 128) s h d, ∃ r : ℝ, x (ix4 (at_ g) s h d) = (r : EReal) := fun g s h d => by
    obtain ⟨r, hr⟩ := (dom g.1).2.2.2 g.2 s h d
    exact ⟨r, (block_page x g.1 g.2 s h d).symm.trans hr⟩
  choose K hK using hkr
  have hxr : ∀ t s h d, x (ix4 t s h d) = (K (place t) s h d : EReal) := fun t s h d => by
    have := hK (place t) s h d
    rwa [at_place] at this
  have hyr : ∀ t s h d, y (ix4 t s h d) = (fun g s h d => y (ix4 (at_ g) s h d)) (place t) s h d := fun t s h d => by
    show _ = y (ix4 (at_ (place t)) s h d)
    rw [at_place]
  funext i
  obtain ⟨b, z, h, d, rfl⟩ : ∃ (b : Fin 16) (z : Fin 1) (h : Fin 16) (d : Fin 64), i = ix4 b z h d := ⟨i 0, i 1, i 2, i 3, eq_ix4 i⟩
  obtain rfl : z = 0 := Subsingleton.elim _ _
  have hA := some_weight bt ln hone b (fun g s => Real.exp (keyScore Q K b h g s)) fun g s => Real.exp_pos _
  rw [ReferenceIdeal.Value.answer q x y bt ln Q K (fun g s h d => y (ix4 (at_ g) s h d)) hQ hxr hyr b h d hA]
  let ln' : IVec S16x1 32 := shapeCast S16x1 ln (by decide)
  let kt : Fin 4 → FVec Ideal Cert.KernelIdeal.S16x16x64x128 .f32 := fun c => Cert.KernelIdeal.Gen.V m c KernelIdeal.main_v1
  let vt : Fin 4 → FVec Ideal Cert.KernelIdeal.S16x16x64x128 .f32 := fun c => Cert.KernelIdeal.Gen.V m c KernelIdeal.main_v2
  have eq0 : ∀ c, Cert.KernelIdeal.Gen.V m c KernelIdeal.main_arg0 = q := fun c => (Cert.KernelIdeal.Gen.V_main_arg0 m c).trans (hq c)
  have eb : ∀ c, Cert.KernelIdeal.Gen.V m c KernelIdeal.main_arg3 = bt := fun c => (Cert.KernelIdeal.Gen.V_main_arg3 m c).trans (hbt c)
  have el : ∀ c, Cert.KernelIdeal.Gen.V m c KernelIdeal.main_v3 = ln' := fun c => by
    funext j
    obtain ⟨b, z, rfl⟩ : ∃ (b : Fin 16) (z : Fin 1), j = ix2 b z := ⟨j 0, j 1, eq_ix2 j⟩
    obtain rfl : z = 0 := Subsingleton.elim _ _
    rw [lens_at, hln]
    pointwise [ln']
  have hl' : ∀ b, ln' (ix2 b (0 : Fin 1)) = ln (ix1 b) := fun b => by pointwise [ln']
  have eO : Cert.KernelIdeal.Talk.tO m = fun c => Cert.KernelIdeal.Talk.tabO q bt ln' (kt c) (vt c) c := funext fun c => by
    unfold Cert.KernelIdeal.Talk.tO
    rw [eq0, eb, el]
  have eM : Cert.KernelIdeal.Talk.tM m = fun c => Cert.KernelIdeal.Talk.tabM q bt ln' (kt c) c := funext fun c => by
    unfold Cert.KernelIdeal.Talk.tM
    rw [eq0, eb, el]
  have eL : Cert.KernelIdeal.Talk.tL m = fun c => Cert.KernelIdeal.Talk.tabL q bt ln' (kt c) c := funext fun c => by
    unfold Cert.KernelIdeal.Talk.tL
    rw [eq0, eb, el]
  have hk : ∀ c p s h d, kt c (ix4 s h d p) = (K (c, p) s h d : EReal) := fun c p s h d => by
    refine (keys_at m c p s h d).trans ?_
    rw [hx, block_page, hK]
  have hv : ∀ c p s h d, vt c (ix4 s h d p) = (fun g s h d => y (ix4 (at_ g) s h d)) (c, p) s h d := fun c p s h d => by
    refine (values_at m c p s h d).trans ?_
    rw [hy, block_page]
  have he := hits_eq bt ln ln' hl' hpages b
  have hans := Cert.KernelIdeal.Talk.answer q bt ln' kt vt Q K (fun g s h d => y (ix4 (at_ g) s h d)) hQ hk hv b h d c
    (by simp only [he]; exact hA)
  simp only [he] at hans
  unfold Cert.KernelIdeal.Talk.res
  rw [eO, eM, eL]
  exact hans

/-- The kernel and the reference end with the same answer. -/
theorem algebraic : Cert.algebraic_KernelIdeal_ReferenceIdeal_pre_in_domain_KernelIdeal := fun m ρ m' ρ' hpre hin =>
  ⟨Cert.ReferenceIdeal.Value.res_main_v35 m' 0,
    (θ_run Cert.KernelIdeal.defs _ _).mono (fun _ h c =>
        let ⟨h0, h1, h2, h3, h4, h5⟩ := h.1 c
        ⟨h5.trans ((same m _ _ _ _ _ (fun c => (hin c).1) (fun c => (hin c).2.1) (fun c => (hin c).2.2.1) (fun c => (hin c).2.2.2.1)
          (fun c => (hin c).2.2.2.2) hpre c).trans (Cert.ReferenceIdeal.Value.res_eq m' 0).symm), h0, h1, h2, h3, h4⟩)
      (Cert.KernelIdeal.Talk.run_main (F := Ideal) m ρ),
    (θ_run Cert.ReferenceIdeal.defs _ _).mono (fun _ h => h 0) (Cert.ReferenceIdeal.Value.run (F := Ideal) m' ρ')⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, factsPre, factsPreRef,
    frame_kernel, frame_ideal, fun m ρ _ => frame_ideal m ρ trivial, frame_ref, fun m ρ _ => frame_ref m ρ trivial,
    names_bot, algebraic⟩

end Cert.Proof

end
